-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x16 : Shape := ⟨2, ![1, 16]⟩
abbrev S128x16 : Shape := ⟨2, ![128, 16]⟩
abbrev S128x32 : Shape := ⟨2, ![128, 32]⟩
abbrev S128 : Shape := ⟨1, ![128]⟩
abbrev S16x1 : Shape := ⟨2, ![16, 1]⟩
abbrev S1 : Shape := ⟨1, ![1]⟩
abbrev S50000x12 : Shape := ⟨2, ![50000, 12]⟩
abbrev S_ : Shape := ⟨0, ![]⟩

class Facts : Prop where
  slices_S50000x128_S50000x12_0_116 : S50000x128.Slices ![0, 116] S50000x12
  bcast_S_S50000x12 : S_.BroadcastsInDim S50000x12 (![] : Fin 0 → Fin S50000x12.rank)
  reducesTo_S50000x12_S_d0_1 : S50000x12.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S128x16 : S_.BroadcastsInDim S128x16 (![] : Fin 0 → Fin S128x16.rank)
  reducesTo_S128x16_S_d0_1 : S128x16.ReducesTo [0, 1] S_

variable [Facts]

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x32 .f32) (main_arg7 : FVec F S32 .f32) (main_arg8 : FVec F S32x16 .f32) (main_arg9 : FVec F S16 .f32) (main_arg10 : FVec F S1x16 .f32) (main_arg11 : FVec F S16 .f32) (main_arg12 : FVec F S128x16 .f32) (main_arg13 : FVec F S128x32 .f32) (main_arg14 : FVec F S128 .f32) (main_arg15 : FVec F S128 .f32) (main_arg16 : FVec F S128x32 .f32) (main_arg17 : FVec F S128x32 .f32) (main_arg18 : FVec F S128 .f32) (main_arg19 : FVec F S128 .f32) (main_arg20 : FVec F S32x16 .f32) (main_arg21 : FVec F S16 .f32) (main_arg22 : FVec F S16x1 .f32) (main_arg23 : FVec F S1 .f32) : IVec S_ 1 :=
  let main_v0 : FVec F S50000x12 .f32 := (extractStridedSlice S50000x12 ![0, 116] · slices_S50000x128_S50000x12_0_116) main_arg0
  let main_v1 : FVec F S50000x12 .f32 := Host.absf main_v0
  let main_cst : FVec F S_ .f32 := constant S_ .f32 0x7F800000#32
  let main_v2 : FVec F S50000x12 .f32 := broadcastInDim S50000x12 ![] bcast_S_S50000x12 main_cst
  let main_v3 : IVec S50000x12 1 := cmpf .olt main_v1 main_v2
  let main_c : IVec S_ 1 := constantI S_ 1 1#1
  let main_v4 : IVec S_ 1 := (fun x v => Host.reduce IntOp.andi x v reducesTo_S50000x12_S_d0_1 h_S_) main_v3 main_c
  let main_v5 : FVec F S1x16 .f32 := Host.absf main_arg10
  let main_cst_0 : FVec F S_ .f32 := constant S_ .f32 0x7F800000#32
  let main_v6 : FVec F S1x16 .f32 := broadcastInDim S1x16 ![] bcast_S_S1x16 main_cst_0
  let main_v7 : IVec S1x16 1 := cmpf .olt main_v5 main_v6
  let main_c_1 : IVec S_ 1 := constantI S_ 1 1#1
  let main_v8 : IVec S_ 1 := (fun x v => Host.reduce IntOp.andi x v reducesTo_S1x16_S_d0_1 h_S_) main_v7 main_c_1
  let main_v9 : IVec S_ 1 := andi main_v4 main_v8
  let main_v10 : FVec F S128x16 .f32 := Host.absf main_arg12
  let main_cst_2 : FVec F S_ .f32 := constant S_ .f32 0x7F800000#32
  let main_v11 : FVec F S128x16 .f32 := broadcastInDim S128x16 ![] bcast_S_S128x16 main_cst_2
  let main_v12 : IVec S128x16 1 := cmpf .olt main_v10 main_v11
  let main_c_3 : IVec S_ 1 := constantI S_ 1 1#1
  let main_v13 : IVec S_ 1 := (fun x v => Host.reduce IntOp.andi x v reducesTo_S128x16_S_d0_1 h_S_) main_v12 main_c_3
  let main_v14 : IVec S_ 1 := andi main_v9 main_v13
  main_v14
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x16 : Shape := ⟨2, ![1, 16]⟩
abbrev S128x16 : Shape := ⟨2, ![128, 16]⟩
abbrev S128x32 : Shape := ⟨2, ![128, 32]⟩
abbrev S128 : Shape := ⟨1, ![128]⟩
abbrev S16x1 : Shape := ⟨2, ![16, 1]⟩
abbrev S1 : Shape := ⟨1, ![1]⟩
abbrev S12500x512 : Shape := ⟨2, ![12500, 512]⟩
abbrev S4x4 : Shape := ⟨2, ![4, 4]⟩
abbrev S_ : Shape := ⟨0, ![]⟩
abbrev S12x12 : Shape := ⟨2, ![12, 12]⟩
abbrev S1x128 : Shape := ⟨2, ![1, 128]⟩
abbrev S32x128 : Shape := ⟨2, ![32, 128]⟩
abbrev S32x4x32 : Shape := ⟨3, ![32, 4, 32]⟩
abbrev S4x1x1x4x1 : Shape := ⟨5, ![4, 1, 1, 4, 1]⟩
abbrev S1x32x4x1x32 : Shape := ⟨5, ![1, 32, 4, 1, 32]⟩
abbrev S4x32x4x4x32 : Shape := ⟨5, ![4, 32, 4, 4, 32]⟩
abbrev S128x512 : Shape := ⟨2, ![128, 512]⟩
abbrev S1x128x1x512 : Shape := ⟨4, ![1, 128, 1, 512]⟩
abbrev S1x128x12x512 : Shape := ⟨4, ![1, 128, 12, 512]⟩
abbrev S128x6144 : Shape := ⟨2, ![128, 6144]⟩
abbrev S16x128 : Shape := ⟨2, ![16, 128]⟩
abbrev S4x32 : Shape := ⟨2, ![4, 32]⟩
abbrev S1x12x12x1x1x1 : Shape := ⟨6, ![1, 12, 12, 1, 1, 1]⟩
abbrev S4x1x1x1x4x1 : Shape := ⟨6, ![4, 1, 1, 1, 4, 1]⟩
abbrev S4x12x12x1x4x1 : Shape := ⟨6, ![4, 12, 12, 1, 4, 1]⟩
abbrev S1x1x1x4x1x32 : Shape := ⟨6, ![1, 1, 1, 4, 1, 32]⟩
abbrev S4x12x12x4x4x32 : Shape := ⟨6, ![4, 12, 12, 4, 4, 32]⟩
abbrev S48x6144 : Shape := ⟨2, ![48, 6144]⟩
abbrev S4x12x6144 : Shape := ⟨3, ![4, 12, 6144]⟩
abbrev S4x16x6144 : Shape := ⟨3, ![4, 16, 6144]⟩
abbrev S64x6144 : Shape := ⟨2, ![64, 6144]⟩
abbrev S4x1x32 : Shape := ⟨3, ![4, 1, 32]⟩
abbrev S4x4x32 : Shape := ⟨3, ![4, 4, 32]⟩
abbrev S1x512 : Shape := ⟨2, ![1, 512]⟩
abbrev S1x1x1x512 : Shape := ⟨4, ![1, 1, 1, 512]⟩
abbrev S1x1x12x512 : Shape := ⟨4, ![1, 1, 12, 512]⟩
abbrev S1x6144 : Shape := ⟨2, ![1, 6144]⟩
abbrev S15x6144 : Shape := ⟨2, ![15, 6144]⟩
abbrev S16x6144 : Shape := ⟨2, ![16, 6144]⟩
abbrev S208x6144 : Shape := ⟨2, ![208, 6144]⟩
abbrev S64x128 : Shape := ⟨2, ![64, 128]⟩
abbrev S256x512 : Shape := ⟨2, ![256, 512]⟩
abbrev S4x1x4x1 : Shape := ⟨4, ![4, 1, 4, 1]⟩
abbrev S1x32x1x16 : Shape := ⟨4, ![1, 32, 1, 16]⟩
abbrev S4x32x4x16 : Shape := ⟨4, ![4, 32, 4, 16]⟩
abbrev S1x1x16 : Shape := ⟨3, ![1, 1, 16]⟩
abbrev S1x4x16 : Shape := ⟨3, ![1, 4, 16]⟩
abbrev S1x64 : Shape := ⟨2, ![1, 64]⟩
abbrev S4x1x4 : Shape := ⟨3, ![4, 1, 4]⟩
abbrev S1x16x1 : Shape := ⟨3, ![1, 16, 1]⟩
abbrev S4x16x4 : Shape := ⟨3, ![4, 16, 4]⟩
abbrev S64x4 : Shape := ⟨2, ![64, 4]⟩
abbrev S1x1 : Shape := ⟨2, ![1, 1]⟩
abbrev S12500x4 : Shape := ⟨2, ![12500, 4]⟩
abbrev S1280x512 : Shape := ⟨2, ![1280, 512]⟩
abbrev S1280x4 : Shape := ⟨2, ![1280, 4]⟩
abbrev S1280x208 : Shape := ⟨2, ![1280, 208]⟩
abbrev S1280x256 : Shape := ⟨2, ![1280, 256]⟩
abbrev S1280x16 : Shape := ⟨2, ![1280, 16]⟩
abbrev S1280x64 : Shape := ⟨2, ![1280, 64]⟩
abbrev S1280x128 : Shape := ⟨2, ![1280, 128]⟩
abbrev S208x512 : Shape := ⟨2, ![208, 512]⟩
abbrev S640x80 : Shape := ⟨2, ![640, 80]⟩
abbrev S80x512 : Shape := ⟨2, ![80, 512]⟩
abbrev S640x512 : Shape := ⟨2, ![640, 512]⟩
abbrev S640x128 : Shape := ⟨2, ![640, 128]⟩
abbrev S640x208 : Shape := ⟨2, ![640, 208]⟩
abbrev S640x256 : Shape := ⟨2, ![640, 256]⟩
abbrev S640x64 : Shape := ⟨2, ![640, 64]⟩
abbrev S640x4 : Shape := ⟨2, ![640, 4]⟩

abbrev nBuf : Space → Nat
  | .hbm => 151
  | .vmem => 13
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S32x16, .f32⟩
  | 9 => ⟨S16, .f32⟩
  | 10 => ⟨S1x16, .f32⟩
  | 11 => ⟨S16, .f32⟩
  | 12 => ⟨S128x16, .f32⟩
  | 13 => ⟨S128x32, .f32⟩
  | 14 => ⟨S128, .f32⟩
  | 15 => ⟨S128, .f32⟩
  | 16 => ⟨S128x32, .f32⟩
  | 17 => ⟨S128x32, .f32⟩
  | 18 => ⟨S128, .f32⟩
  | 19 => ⟨S128, .f32⟩
  | 20 => ⟨S32x16, .f32⟩
  | 21 => ⟨S16, .f32⟩
  | 22 => ⟨S16x1, .f32⟩
  | 23 => ⟨S1, .f32⟩
  | 24 => ⟨S12500x512, .f32⟩
  | 25 => ⟨S4x4, .i32⟩
  | 26 => ⟨S4x4, .i32⟩
  | 27 => ⟨S_, .i32⟩
  | 28 => ⟨S4x4, .i32⟩
  | 29 => ⟨S4x4, .i32⟩
  | 30 => ⟨S4x4, .i1⟩
  | 31 => ⟨S4x4, .f32⟩
  | 32 => ⟨S12x12, .i32⟩
  | 33 => ⟨S12x12, .i32⟩
  | 34 => ⟨S_, .i32⟩
  | 35 => ⟨S12x12, .i32⟩
  | 36 => ⟨S12x12, .i32⟩
  | 37 => ⟨S12x12, .i1⟩
  | 38 => ⟨S12x12, .f32⟩
  | 39 => ⟨S_, .f32⟩
  | 40 => ⟨S32, .f32⟩
  | 41 => ⟨S_, .f32⟩
  | 42 => ⟨S32, .f32⟩
  | 43 => ⟨S128, .f32⟩
  | 44 => ⟨S1x128, .f32⟩
  | 45 => ⟨S32x128, .f32⟩
  | 46 => ⟨S_, .f32⟩
  | 47 => ⟨S32x128, .f32⟩
  | 48 => ⟨S32x128, .f32⟩
  | 49 => ⟨S32x128, .f32⟩
  | 50 => ⟨S32x128, .f32⟩
  | 51 => ⟨S32x4x32, .f32⟩
  | 52 => ⟨S4x1x1x4x1, .f32⟩
  | 53 => ⟨S1x32x4x1x32, .f32⟩
  | 54 => ⟨S4x32x4x4x32, .f32⟩
  | 55 => ⟨S4x32x4x4x32, .f32⟩
  | 56 => ⟨S4x32x4x4x32, .f32⟩
  | 57 => ⟨S128x512, .f32⟩
  | 58 => ⟨S1x128x1x512, .f32⟩
  | 59 => ⟨S1x128x12x512, .f32⟩
  | 60 => ⟨S128x6144, .f32⟩
  | 61 => ⟨S16x128, .f32⟩
  | 62 => ⟨S1x128, .f32⟩
  | 63 => ⟨S1x128, .f32⟩
  | 64 => ⟨S4x32, .f32⟩
  | 65 => ⟨S1x12x12x1x1x1, .f32⟩
  | 66 => ⟨S4x1x1x1x4x1, .f32⟩
  | 67 => ⟨S4x12x12x1x4x1, .f32⟩
  | 68 => ⟨S4x12x12x1x4x1, .f32⟩
  | 69 => ⟨S4x12x12x1x4x1, .f32⟩
  | 70 => ⟨S1x1x1x4x1x32, .f32⟩
  | 71 => ⟨S4x12x12x4x4x32, .f32⟩
  | 72 => ⟨S4x12x12x4x4x32, .f32⟩
  | 73 => ⟨S4x12x12x4x4x32, .f32⟩
  | 74 => ⟨S48x6144, .f32⟩
  | 75 => ⟨S4x12x6144, .f32⟩
  | 76 => ⟨S_, .i32⟩
  | 77 => ⟨S_, .f32⟩
  | 78 => ⟨S4x16x6144, .f32⟩
  | 79 => ⟨S64x6144, .f32⟩
  | 80 => ⟨S16x128, .f32⟩
  | 81 => ⟨S128, .f32⟩
  | 82 => ⟨S128, .f32⟩
  | 83 => ⟨S128, .f32⟩
  | 84 => ⟨S1x128, .f32⟩
  | 85 => ⟨S1x128, .f32⟩
  | 86 => ⟨S4x1x32, .f32⟩
  | 87 => ⟨S4x4x32, .f32⟩
  | 88 => ⟨S1x512, .f32⟩
  | 89 => ⟨S1x1x1x512, .f32⟩
  | 90 => ⟨S1x1x12x512, .f32⟩
  | 91 => ⟨S1x6144, .f32⟩
  | 92 => ⟨S_, .f32⟩
  | 93 => ⟨S15x6144, .f32⟩
  | 94 => ⟨S16x6144, .f32⟩
  | 95 => ⟨S208x6144, .f32⟩
  | 96 => ⟨S128x64, .f32⟩
  | 97 => ⟨S64x128, .f32⟩
  | 98 => ⟨S_, .f32⟩
  | 99 => ⟨S64x128, .f32⟩
  | 100 => ⟨S64x128, .f32⟩
  | 101 => ⟨S64x128, .f32⟩
  | 102 => ⟨S64x128, .f32⟩
  | 103 => ⟨S32x128, .f32⟩
  | 104 => ⟨S32x4x32, .f32⟩
  | 105 => ⟨S32x128, .f32⟩
  | 106 => ⟨S32x4x32, .f32⟩
  | 107 => ⟨S128, .f32⟩
  | 108 => ⟨S1x128, .f32⟩
  | 109 => ⟨S1x128, .f32⟩
  | 110 => ⟨S4x1x32, .f32⟩
  | 111 => ⟨S4x4x32, .f32⟩
  | 112 => ⟨S1x512, .f32⟩
  | 113 => ⟨S4x1x1x4x1, .f32⟩
  | 114 => ⟨S1x32x4x1x32, .f32⟩
  | 115 => ⟨S4x32x4x4x32, .f32⟩
  | 116 => ⟨S4x32x4x4x32, .f32⟩
  | 117 => ⟨S4x32x4x4x32, .f32⟩
  | 118 => ⟨S128x512, .f32⟩
  | 119 => ⟨S4x1x1x4x1, .f32⟩
  | 120 => ⟨S1x32x4x1x32, .f32⟩
  | 121 => ⟨S4x32x4x4x32, .f32⟩
  | 122 => ⟨S4x32x4x4x32, .f32⟩
  | 123 => ⟨S4x32x4x4x32, .f32⟩
  | 124 => ⟨S128x512, .f32⟩
  | 125 => ⟨S256x512, .f32⟩
  | 126 => ⟨S4x1x4x1, .f32⟩
  | 127 => ⟨S_, .f32⟩
  | _ => ⟨S50000x128, .f32⟩

abbrev hbmTy0_1 (i : Nat) : BufTy := match i % 128 with
  | 0 => ⟨S32x16, .f32⟩
  | 1 => ⟨S32x16, .f32⟩
  | 2 => ⟨S1x32x1x16, .f32⟩
  | 3 => ⟨S4x32x4x16, .f32⟩
  | 4 => ⟨S4x32x4x16, .f32⟩
  | 5 => ⟨S4x32x4x16, .f32⟩
  | 6 => ⟨S128x64, .f32⟩
  | 7 => ⟨S1x1x16, .f32⟩
  | 8 => ⟨S1x4x16, .f32⟩
  | 9 => ⟨S1x64, .f32⟩
  | 10 => ⟨S4x1x4, .f32⟩
  | 11 => ⟨S16, .f32⟩
  | 12 => ⟨S1x16x1, .f32⟩
  | 13 => ⟨S4x16x4, .f32⟩
  | 14 => ⟨S4x16x4, .f32⟩
  | 15 => ⟨S4x16x4, .f32⟩
  | 16 => ⟨S64x4, .f32⟩
  | 17 => ⟨S1x1, .f32⟩
  | 18 => ⟨S208x6144, .bf16⟩
  | 19 => ⟨S256x512, .bf16⟩
  | 20 => ⟨S128x64, .bf16⟩
  | 21 => ⟨S64x4, .bf16⟩
  | 22 => ⟨S12500x4, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1280x512, .f32⟩
  | .local _ .vmem, ⟨1, _⟩ => ⟨S1280x512, .f32⟩
  | .local _ .vmem, ⟨2, _⟩ => ⟨S208x6144, .bf16⟩
  | .local _ .vmem, ⟨3, _⟩ => ⟨S256x512, .bf16⟩
  | .local _ .vmem, ⟨4, _⟩ => ⟨S1x512, .f32⟩
  | .local _ .vmem, ⟨5, _⟩ => ⟨S128x64, .bf16⟩
  | .local _ .vmem, ⟨6, _⟩ => ⟨S1x64, .f32⟩
  | .local _ .vmem, ⟨7, _⟩ => ⟨S64x4, .bf16⟩
  | .local _ .vmem, ⟨8, _⟩ => ⟨S1x1, .f32⟩
  | .local _ .vmem, ⟨9, _⟩ => ⟨S1280x4, .f32⟩
  | .local _ .vmem, ⟨10, _⟩ => ⟨S1280x4, .f32⟩
  | .local _ .vmem, ⟨11, _⟩ => ⟨S1280x208, .bf16⟩
  | .local _ .vmem, ⟨12, _⟩ => ⟨S1280x256, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_2 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_3 : Ref sig .tc := ⟨.hbm, 76, rfl⟩
abbrev main_call0_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_4 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_5 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_6 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S208x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x4 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1280x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x16 : Shape := ⟨2, ![1, 16]⟩
abbrev S128x16 : Shape := ⟨2, ![128, 16]⟩
abbrev S128x32 : Shape := ⟨2, ![128, 32]⟩
abbrev S128 : Shape := ⟨1, ![128]⟩
abbrev S16x1 : Shape := ⟨2, ![16, 1]⟩
abbrev S1 : Shape := ⟨1, ![1]⟩
abbrev S50000x12 : Shape := ⟨2, ![50000, 12]⟩
abbrev S50000x12x1 : Shape := ⟨3, ![50000, 12, 1]⟩
abbrev S50000x12x16 : Shape := ⟨3, ![50000, 12, 16]⟩
abbrev S1x1x16 : Shape := ⟨3, ![1, 1, 16]⟩
abbrev S_ : Shape := ⟨0, ![]⟩
abbrev S50000x32 : Shape := ⟨2, ![50000, 32]⟩
abbrev S12x50000x16 : Shape := ⟨3, ![12, 50000, 16]⟩
abbrev S1x50000x16 : Shape := ⟨3, ![1, 50000, 16]⟩
abbrev S50000x16 : Shape := ⟨2, ![50000, 16]⟩
abbrev S16x128 : Shape := ⟨2, ![16, 128]⟩
abbrev S32x128 : Shape := ⟨2, ![32, 128]⟩
abbrev S1x128 : Shape := ⟨2, ![1, 128]⟩
abbrev S50000x1 : Shape := ⟨2, ![50000, 1]⟩
abbrev S1x1 : Shape := ⟨2, ![1, 1]⟩
abbrev S12500x4 : Shape := ⟨2, ![12500, 4]⟩

abbrev nBuf : Space → Nat
  | .hbm => 158
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S32x16, .f32⟩
  | 9 => ⟨S16, .f32⟩
  | 10 => ⟨S1x16, .f32⟩
  | 11 => ⟨S16, .f32⟩
  | 12 => ⟨S128x16, .f32⟩
  | 13 => ⟨S128x32, .f32⟩
  | 14 => ⟨S128, .f32⟩
  | 15 => ⟨S128, .f32⟩
  | 16 => ⟨S128x32, .f32⟩
  | 17 => ⟨S128x32, .f32⟩
  | 18 => ⟨S128, .f32⟩
  | 19 => ⟨S128, .f32⟩
  | 20 => ⟨S32x16, .f32⟩
  | 21 => ⟨S16, .f32⟩
  | 22 => ⟨S16x1, .f32⟩
  | 23 => ⟨S1, .f32⟩
  | 24 => ⟨S50000x12, .f32⟩
  | 25 => ⟨S50000x12x1, .f32⟩
  | 26 => ⟨S50000x12x16, .f32⟩
  | 27 => ⟨S1x1x16, .f32⟩
  | 28 => ⟨S50000x12x16, .f32⟩
  | 29 => ⟨S50000x12x16, .f32⟩
  | 30 => ⟨S_, .f32⟩
  | 31 => ⟨S50000x32, .f32⟩
  | 32 => ⟨S12x50000x16, .f32⟩
  | 33 => ⟨S_, .i32⟩
  | 34 => ⟨S12x50000x16, .f32⟩
  | 35 => ⟨S128x16, .f32⟩
  | 36 => ⟨S128x32, .f32⟩
  | 37 => ⟨S128, .f32⟩
  | 38 => ⟨S128, .f32⟩
  | 39 => ⟨S128x32, .f32⟩
  | 40 => ⟨S128x32, .f32⟩
  | 41 => ⟨S128, .f32⟩
  | 42 => ⟨S128, .f32⟩
  | 43 => ⟨S_, .i32⟩
  | 44 => ⟨S50000x32, .f32⟩
  | 45 => ⟨S50000x32, .f32⟩
  | 46 => ⟨S50000x32, .f32⟩
  | 47 => ⟨S50000x32, .f32⟩
  | 48 => ⟨S_, .i32⟩
  | 49 => ⟨S_, .i1⟩
  | 50 => ⟨S_, .i32⟩
  | 51 => ⟨S_, .i32⟩
  | 52 => ⟨S1x50000x16, .f32⟩
  | 53 => ⟨S50000x16, .f32⟩
  | 54 => ⟨S16x128, .f32⟩
  | 55 => ⟨S50000x128, .f32⟩
  | 56 => ⟨S32x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S50000x32, .f32⟩
  | 66 => ⟨S50000x32, .f32⟩
  | 67 => ⟨S50000x32, .f32⟩
  | 68 => ⟨S50000x32, .f32⟩
  | 69 => ⟨S50000x32, .f32⟩
  | 70 => ⟨S50000x32, .f32⟩
  | 71 => ⟨S_, .f32⟩
  | 72 => ⟨S50000x32, .f32⟩
  | 73 => ⟨S50000x32, .f32⟩
  | 74 => ⟨S_, .f32⟩
  | 75 => ⟨S50000x32, .f32⟩
  | 76 => ⟨S50000x32, .f32⟩
  | 77 => ⟨S50000x32, .f32⟩
  | 78 => ⟨S50000x32, .f32⟩
  | 79 => ⟨S50000x32, .f32⟩
  | 80 => ⟨S_, .f32⟩
  | 81 => ⟨S50000x32, .f32⟩
  | 82 => ⟨S50000x32, .f32⟩
  | 83 => ⟨S_, .f32⟩
  | 84 => ⟨S50000x32, .f32⟩
  | 85 => ⟨S50000x32, .f32⟩
  | 86 => ⟨S50000x32, .f32⟩
  | 87 => ⟨S50000x32, .f32⟩
  | 88 => ⟨S50000x32, .f32⟩
  | 89 => ⟨S50000x32, .f32⟩
  | 90 => ⟨S50000x32, .f32⟩
  | 91 => ⟨S_, .f32⟩
  | 92 => ⟨S50000x32, .f32⟩
  | 93 => ⟨S50000x32, .f32⟩
  | 94 => ⟨S_, .f32⟩
  | 95 => ⟨S50000x32, .f32⟩
  | 96 => ⟨S50000x32, .f32⟩
  | 97 => ⟨S50000x32, .f32⟩
  | 98 => ⟨S50000x32, .f32⟩
  | 99 => ⟨S32x128, .f32⟩
  | 100 => ⟨S50000x128, .f32⟩
  | 101 => ⟨S32x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S50000x32, .f32⟩
  | 111 => ⟨S50000x32, .f32⟩
  | 112 => ⟨S50000x32, .f32⟩
  | 113 => ⟨S50000x32, .f32⟩
  | 114 => ⟨S50000x32, .f32⟩
  | 115 => ⟨S50000x32, .f32⟩
  | 116 => ⟨S_, .f32⟩
  | 117 => ⟨S50000x32, .f32⟩
  | 118 => ⟨S50000x32, .f32⟩
  | 119 => ⟨S_, .f32⟩
  | 120 => ⟨S50000x32, .f32⟩
  | 121 => ⟨S50000x32, .f32⟩
  | 122 => ⟨S50000x32, .f32⟩
  | 123 => ⟨S50000x32, .f32⟩
  | 124 => ⟨S50000x32, .f32⟩
  | 125 => ⟨S_, .f32⟩
  | 126 => ⟨S50000x32, .f32⟩
  | 127 => ⟨S50000x32, .f32⟩
  | _ => ⟨S50000x128, .f32⟩

abbrev hbmTy0_1 (i : Nat) : BufTy := match i % 128 with
  | 0 => ⟨S_, .f32⟩
  | 1 => ⟨S50000x32, .f32⟩
  | 2 => ⟨S50000x32, .f32⟩
  | 3 => ⟨S50000x32, .f32⟩
  | 4 => ⟨S50000x32, .f32⟩
  | 5 => ⟨S50000x32, .f32⟩
  | 6 => ⟨S50000x32, .f32⟩
  | 7 => ⟨S50000x32, .f32⟩
  | 8 => ⟨S_, .f32⟩
  | 9 => ⟨S50000x32, .f32⟩
  | 10 => ⟨S50000x32, .f32⟩
  | 11 => ⟨S_, .f32⟩
  | 12 => ⟨S50000x32, .f32⟩
  | 13 => ⟨S50000x32, .f32⟩
  | 14 => ⟨S50000x32, .f32⟩
  | 15 => ⟨S50000x32, .f32⟩
  | 16 => ⟨S_, .i32⟩
  | 17 => ⟨S_, .i32⟩
  | 18 => ⟨S50000x16, .f32⟩
  | 19 => ⟨S1x16, .f32⟩
  | 20 => ⟨S50000x16, .f32⟩
  | 21 => ⟨S50000x16, .f32⟩
  | 22 => ⟨S_, .f32⟩
  | 23 => ⟨S50000x16, .f32⟩
  | 24 => ⟨S50000x16, .f32⟩
  | 25 => ⟨S50000x1, .f32⟩
  | 26 => ⟨S1x1, .f32⟩
  | 27 => ⟨S50000x1, .f32⟩
  | 28 => ⟨S50000x1, .f32⟩
  | 29 => ⟨S12500x4, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_v8_0 : Ref sig .tc := ⟨.hbm, 34, rfl⟩
abbrev main_v8_1 : Ref sig .tc := ⟨.hbm, 35, rfl⟩
abbrev main_v8_2 : Ref sig .tc := ⟨.hbm, 36, rfl⟩
abbrev main_v8_3 : Ref sig .tc := ⟨.hbm, 37, rfl⟩
abbrev main_v8_4 : Ref sig .tc := ⟨.hbm, 38, rfl⟩
abbrev main_v8_5 : Ref sig .tc := ⟨.hbm, 39, rfl⟩
abbrev main_v8_6 : Ref sig .tc := ⟨.hbm, 40, rfl⟩
abbrev main_v8_7 : Ref sig .tc := ⟨.hbm, 41, rfl⟩
abbrev main_v8_8 : Ref sig .tc := ⟨.hbm, 42, rfl⟩
abbrev main_v8_9 : Ref sig .tc := ⟨.hbm, 43, rfl⟩
abbrev main_v8_10 : Ref sig .tc := ⟨.hbm, 44, rfl⟩
abbrev main_v8_11 : Ref sig .tc := ⟨.hbm, 45, rfl⟩
abbrev main_v8_12 : Ref sig .tc := ⟨.hbm, 46, rfl⟩
abbrev main_v8_13 : Ref sig .tc := ⟨.hbm, 47, rfl⟩
abbrev main_while0c_c_13 : Ref sig .tc := ⟨.hbm, 48, rfl⟩
abbrev main_while0c_v19 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_v0 : Ref sig .tc := ⟨.hbm, 52, rfl⟩
abbrev main_while0b_v19 : Ref sig .tc := ⟨.hbm, 53, rfl⟩
abbrev main_while0b_v20 : Ref sig .tc := ⟨.hbm, 54, rfl⟩
abbrev main_while0b_v21 : Ref sig .tc := ⟨.hbm, 55, rfl⟩
abbrev main_while0b_v22 : Ref sig .tc := ⟨.hbm, 56, rfl⟩
abbrev main_while0b_v23 : Ref sig .tc := ⟨.hbm, 57, rfl⟩
abbrev main_while0b_v24 : Ref sig .tc := ⟨.hbm, 58, rfl⟩
abbrev main_while0b_v25 : Ref sig .tc := ⟨.hbm, 59, rfl⟩
abbrev main_while0b_v26 : Ref sig .tc := ⟨.hbm, 60, rfl⟩
abbrev main_while0b_v27 : Ref sig .tc := ⟨.hbm, 61, rfl⟩
abbrev main_while0b_v28 : Ref sig .tc := ⟨.hbm, 62, rfl⟩
abbrev main_while0b_v29 : Ref sig .tc := ⟨.hbm, 63, rfl⟩
abbrev main_while0b_v30 : Ref sig .tc := ⟨.hbm, 64, rfl⟩
abbrev main_while0b_v31 : Ref sig .tc := ⟨.hbm, 65, rfl⟩
abbrev main_while0b_v32 : Ref sig .tc := ⟨.hbm, 66, rfl⟩
abbrev main_while0b_v33 : Ref sig .tc := ⟨.hbm, 67, rfl⟩
abbrev main_while0b_v34 : Ref sig .tc := ⟨.hbm, 68, rfl⟩
abbrev main_while0b_v35 : Ref sig .tc := ⟨.hbm, 69, rfl⟩
abbrev main_while0b_v36 : Ref sig .tc := ⟨.hbm, 70, rfl⟩
abbrev main_while0b_cst_13 : Ref sig .tc := ⟨.hbm, 71, rfl⟩
abbrev main_while0b_v37 : Ref sig .tc := ⟨.hbm, 72, rfl⟩
abbrev main_while0b_v38 : Ref sig .tc := ⟨.hbm, 73, rfl⟩
abbrev main_while0b_cst_14 : Ref sig .tc := ⟨.hbm, 74, rfl⟩
abbrev main_while0b_v39 : Ref sig .tc := ⟨.hbm, 75, rfl⟩
abbrev main_while0b_v40 : Ref sig .tc := ⟨.hbm, 76, rfl⟩
abbrev main_while0b_v41 : Ref sig .tc := ⟨.hbm, 77, rfl⟩
abbrev main_while0b_v42 : Ref sig .tc := ⟨.hbm, 78, rfl⟩
abbrev main_while0b_v43 : Ref sig .tc := ⟨.hbm, 79, rfl⟩
abbrev main_while0b_cst_15 : Ref sig .tc := ⟨.hbm, 80, rfl⟩
abbrev main_while0b_v44 : Ref sig .tc := ⟨.hbm, 81, rfl⟩
abbrev main_while0b_v45 : Ref sig .tc := ⟨.hbm, 82, rfl⟩
abbrev main_while0b_cst_16 : Ref sig .tc := ⟨.hbm, 83, rfl⟩
abbrev main_while0b_v46 : Ref sig .tc := ⟨.hbm, 84, rfl⟩
abbrev main_while0b_v47 : Ref sig .tc := ⟨.hbm, 85, rfl⟩
abbrev main_while0b_v48 : Ref sig .tc := ⟨.hbm, 86, rfl⟩
abbrev main_while0b_v49 : Ref sig .tc := ⟨.hbm, 87, rfl⟩
abbrev main_while0b_v50 : Ref sig .tc := ⟨.hbm, 88, rfl⟩
abbrev main_while0b_v51 : Ref sig .tc := ⟨.hbm, 89, rfl⟩
abbrev main_while0b_v52 : Ref sig .tc := ⟨.hbm, 90, rfl⟩
abbrev main_while0b_cst_17 : Ref sig .tc := ⟨.hbm, 91, rfl⟩
abbrev main_while0b_v53 : Ref sig .tc := ⟨.hbm, 92, rfl⟩
abbrev main_while0b_v54 : Ref sig .tc := ⟨.hbm, 93, rfl⟩
abbrev main_while0b_cst_18 : Ref sig .tc := ⟨.hbm, 94, rfl⟩
abbrev main_while0b_v55 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_v63 : Ref sig .tc := ⟨.hbm, 103, rfl⟩
abbrev main_while0b_v64 : Ref sig .tc := ⟨.hbm, 104, rfl⟩
abbrev main_while0b_v65 : Ref sig .tc := ⟨.hbm, 105, rfl⟩
abbrev main_while0b_v66 : Ref sig .tc := ⟨.hbm, 106, rfl⟩
abbrev main_while0b_v67 : Ref sig .tc := ⟨.hbm, 107, rfl⟩
abbrev main_while0b_v68 : Ref sig .tc := ⟨.hbm, 108, rfl⟩
abbrev main_while0b_v69 : Ref sig .tc := ⟨.hbm, 109, rfl⟩
abbrev main_while0b_v70 : Ref sig .tc := ⟨.hbm, 110, rfl⟩
abbrev main_while0b_v71 : Ref sig .tc := ⟨.hbm, 111, rfl⟩
abbrev main_while0b_v72 : Ref sig .tc := ⟨.hbm, 112, rfl⟩
abbrev main_while0b_v73 : Ref sig .tc := ⟨.hbm, 113, rfl⟩
abbrev main_while0b_v74 : Ref sig .tc := ⟨.hbm, 114, rfl⟩
abbrev main_while0b_v75 : Ref sig .tc := ⟨.hbm, 115, rfl⟩
abbrev main_while0b_cst_19 : Ref sig .tc := ⟨.hbm, 116, rfl⟩
abbrev main_while0b_v76 : Ref sig .tc := ⟨.hbm, 117, rfl⟩
abbrev main_while0b_v77 : Ref sig .tc := ⟨.hbm, 118, rfl⟩
abbrev main_while0b_cst_20 : Ref sig .tc := ⟨.hbm, 119, rfl⟩
abbrev main_while0b_v78 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_v82 : Ref sig .tc := ⟨.hbm, 124, rfl⟩
abbrev main_while0b_cst_21 : Ref sig .tc := ⟨.hbm, 125, rfl⟩
abbrev main_while0b_v83 : Ref sig .tc := ⟨.hbm, 126, rfl⟩
abbrev main_while0b_v84 : Ref sig .tc := ⟨.hbm, 127, rfl⟩
abbrev main_while0b_cst_22 : Ref sig .tc := ⟨.hbm, 128, rfl⟩
abbrev main_while0b_v85 : Ref sig .tc := ⟨.hbm, 129, rfl⟩
abbrev main_while0b_v86 : Ref sig .tc := ⟨.hbm, 130, rfl⟩
abbrev main_while0b_v87 : Ref sig .tc := ⟨.hbm, 131, rfl⟩
abbrev main_while0b_v88 : Ref sig .tc := ⟨.hbm, 132, rfl⟩
abbrev main_while0b_v89 : Ref sig .tc := ⟨.hbm, 133, rfl⟩
abbrev main_while0b_v90 : Ref sig .tc := ⟨.hbm, 134, rfl⟩
abbrev main_while0b_v91 : Ref sig .tc := ⟨.hbm, 135, rfl⟩
abbrev main_while0b_cst_23 : Ref sig .tc := ⟨.hbm, 136, rfl⟩
abbrev main_while0b_v92 : Ref sig .tc := ⟨.hbm, 137, rfl⟩
abbrev main_while0b_v93 : Ref sig .tc := ⟨.hbm, 138, rfl⟩
abbrev main_while0b_cst_24 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_c_25 : Ref sig .tc := ⟨.hbm, 144, rfl⟩
abbrev main_while0b_v98 : Ref sig .tc := ⟨.hbm, 145, rfl⟩
abbrev main_v9 : Ref sig .tc := ⟨.hbm, 146, rfl⟩
abbrev main_v10 : Ref sig .tc := ⟨.hbm, 147, rfl⟩
abbrev main_v11 : Ref sig .tc := ⟨.hbm, 148, rfl⟩
abbrev main_v12 : Ref sig .tc := ⟨.hbm, 149, rfl⟩
abbrev main_call1_cst : Ref sig .tc := ⟨.hbm, 150, rfl⟩
abbrev main_call1_v0 : Ref sig .tc := ⟨.hbm, 151, rfl⟩
abbrev main_v13 : Ref sig .tc := ⟨.hbm, 152, rfl⟩
abbrev main_v14 : Ref sig .tc := ⟨.hbm, 153, rfl⟩
abbrev main_v15 : Ref sig .tc := ⟨.hbm, 154, rfl⟩
abbrev main_v16 : Ref sig .tc := ⟨.hbm, 155, rfl⟩
abbrev main_v17 : Ref sig .tc := ⟨.hbm, 156, rfl⟩
abbrev main_v18 : Ref sig .tc := ⟨.hbm, 157, rfl⟩

abbrev nD : Nat := 1
abbrev τ : Topo := Topo.v7x

variable {F : FTy → Type} [FloatOps F]

abbrev main_while0_count : Scf.Loop 32 := ⟨0#32, 12#32, 1#32⟩
-- ==== Proof.Ref.lean ====
/-
  The run of the reference: its loop's states as a sequence, and what the program leaves.
-/
module

public import proofs.«01_k».proof.Proof.Gen.ReferenceIdeal.Run
public import proofs.«01_k».proof.Proof.Gen.ReferenceIdeal.Step
public import proofs.«01_k».proof.Proof.Gen.ReferenceIdeal.StepRun

@[expose] public section

noncomputable section

namespace Cert.ReferenceIdeal.Proof

open Cert.ReferenceIdeal Cert.ReferenceIdeal.Gen

open Idealize.ShloMosaic Idealize.ShloMosaic.TcCoe Idealize.SL.Sem

variable {F : FTy → Type} [FloatOps F]

variable (m : (ℓ : Loc nD τ sig) → Buf (Elt F) ℓ) (ρ : Dev nD → PrngReg)

/-- The states of the loop over the time steps on core `c`. -/
def states (c : Dev nD) : ℕ → Step.State F
  | 0 => StepRun.initState m c
  | n + 1 => Step.step n (states c n)

end Cert.ReferenceIdeal.Proof

end
-- ==== Proof.BodyIdeal.lean ====
/-
  One grid point of the kernel, run once at symbolic operands.

  From the eight input buffers, the output buffer and the two scratch buffers, each
  held whole, the body runs to its return, gives back the inputs unchanged, leaves the output buffer at contents
  computed from the inputs alone, and leaves the scratch buffers at something. `bodyRun` is that run together with those contents.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Tactic

@[expose] public section

noncomputable section

namespace Cert.KernelIdeal.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of the buffer under a memref on core `c`. -/
abbrev Held (c : Dev nD) {sp : Space} {S : Shape} {e : EltTy} (M : Memref sig .tc sp S e) : Type :=
  Buf (Elt F) (M.view.loc (c : Thread nD τ))

/-- The buffer under a memref, held whole at the contents `f`. -/
abbrev holds (c : Dev nD) {sp : Space} {S : Shape} {e : EltTy} (M : Memref sig .tc sp S e) (f : Held (F := F) c M) :
    sProp 𝕄 :=
  M.view.loc (c : Thread nD τ) ↦{fullShare} f

/-- What one point leaves in the output buffer, with the proof that it does. -/
def bodyRun (c : Dev nD) (i : grid0.Coords)
    (x : Memref sig .tc .vmem S1280x512 .f32) (hx : x.IsWhole) (w0 : Memref sig .tc .vmem S208x6144 .bf16) (hw0 : w0.IsWhole)
    (w1 : Memref sig .tc .vmem S256x512 .bf16) (hw1 : w1.IsWhole) (b1 : Memref sig .tc .vmem S1x512 .f32) (hb1 : b1.IsWhole)
    (f1 : Memref sig .tc .vmem S128x64 .bf16) (hf1 : f1.IsWhole) (d1 : Memref sig .tc .vmem S1x64 .f32) (hd1 : d1.IsWhole)
    (f2 : Memref sig .tc .vmem S64x4 .bf16) (hf2 : f2.IsWhole) (d2 : Memref sig .tc .vmem S1x1 .f32) (hd2 : d2.IsWhole)
    (o : Memref sig .tc .vmem S1280x4 .f32) (ho : o.IsWhole) (sa : Memref sig .tc .vmem S1280x208 .bf16) (hsa : sa.IsWhole)
    (sb : Memref sig .tc .vmem S1280x256 .bf16) (hsb : sb.IsWhole)
    (X : Held (F := F) c x) (W0 : Held (F := F) c w0) (W1 : Held (F := F) c w1) (B1 : Held (F := F) c b1)
    (F1 : Held (F := F) c f1) (D1 : Held (F := F) c d1) (F2 : Held (F := F) c f2) (D2 : Held (F := F) c d2) :
    { O : Held (F := F) c o //
      ∀ (O₀ : Held (F := F) c o) (A₀ : Held (F := F) c sa) (B₀ : Held (F := F) c sb) (E : Set ℕ) (Q : PUnit → sProp 𝕄),
        iprop(holds c x X ∗ holds c w0 W0 ∗ holds c w1 W1 ∗ holds c b1 B1 ∗ holds c f1 F1 ∗ holds c d1 D1 ∗ holds c f2 F2
          ∗ holds c d2 D2 ∗ holds c o O₀ ∗ holds c sa A₀ ∗ holds c sb B₀
          ∗ (iprop(holds c x X ∗ holds c w0 W0 ∗ holds c w1 W1 ∗ holds c b1 B1 ∗ holds c f1 F1 ∗ holds c d1 D1 ∗ holds c f2 F2
              ∗ holds c d2 D2 ∗ holds c o O ∗ (∃ f, holds c sa f) ∗ (∃ f, holds c sb f)) -∗ Q ⟨⟩))
        ⊢ wp frame (wpE (defs₀ (F := F)) Variants.none c none) E
            (cc0__lstm_head_kernel i x hx w0 hw0 w1 hw1 b1 hb1 f1 hf1 d1 hd1 f2 hf2 d2 hd2 o ho sa hsa sb hsb) Q } := by
  refine ⟨?_, fun O₀ A₀ B₀ E Q => ?run⟩
  case run =>
    iintro ⟨Hx, Hw0, Hw1, Hb1, Hf1, Hd1, Hf2, Hd2, Ho, Hsa, Hsb, Hk⟩
    sl_exec_parts!
    sl_step
    iapply Hk
    isplitl [Hx]; · iexact Hx
    isplitl [Hw0]; · iexact Hw0
    isplitl [Hw1]; · iexact Hw1
    isplitl [Hb1]; · iexact Hb1
    isplitl [Hf1]; · iexact Hf1
    isplitl [Hd1]; · iexact Hd1
    isplitl [Hf2]; · iexact Hf2
    isplitl [Hd2]; · iexact Hd2
    isplitl [Ho]; · iexact Ho
    isplitl [Hsa]; · iexists _; iexact Hsa
    iexists _; iexact Hsb

end Cert.KernelIdeal.Proof

end
-- ==== Proof.FrameIdeal.lean ====
/-
  The launch of the idealized kernel: what a grid point's body does to the staged buffers (`sound_kernel`), and the
  run of the whole program with nothing said of the result (`frame`), which is enough for the claim that the
  arguments are left as they were and every counter ends at zero.
-/
module

public import proofs.«01_k».proof.Proof.BodyIdeal
public import Idealize.ShloMosaic.Lib.Pipeline.FrameBody

@[expose] public section

set_option maxRecDepth 16384

noncomputable section

namespace Cert.KernelIdeal.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A whole memref owned at what it reads is its buffer held at the contents that read so. -/
theorem owns_eq_holds (c : Dev nD) {sp : Space} {S : Shape} {e : EltTy} (M : Memref sig .tc sp S e) (h : M.IsWhole)
    (X : S.Idx → Elt F e) :
    (owns (c : Thread nD τ) M fullShare X : sProp 𝕄) = holds c M (h.unread X) := by
  have hr := h.read_unread X
  revert hr
  generalize h.unread X = f
  intro hr
  obtain ⟨b, rfl, rfl, rfl, hm⟩ := h
  cases hm
  simp only [Memref.view_whole, View.read_whole] at hr
  subst hr
  exact owns_whole (c : Thread nD τ) b fullShare f

/-- What one point leaves in the output buffer, as the buffer reads, over what the input buffers read. -/
def pointOut (c : Dev nD) (i : grid0.Coords)
    (x : Memref sig .tc .vmem S1280x512 .f32) (hx : x.IsWhole) (w0 : Memref sig .tc .vmem S208x6144 .bf16) (hw0 : w0.IsWhole)
    (w1 : Memref sig .tc .vmem S256x512 .bf16) (hw1 : w1.IsWhole) (b1 : Memref sig .tc .vmem S1x512 .f32) (hb1 : b1.IsWhole)
    (f1 : Memref sig .tc .vmem S128x64 .bf16) (hf1 : f1.IsWhole) (d1 : Memref sig .tc .vmem S1x64 .f32) (hd1 : d1.IsWhole)
    (f2 : Memref sig .tc .vmem S64x4 .bf16) (hf2 : f2.IsWhole) (d2 : Memref sig .tc .vmem S1x1 .f32) (hd2 : d2.IsWhole)
    (o : Memref sig .tc .vmem S1280x4 .f32) (ho : o.IsWhole)
    (X : S1280x512.Idx → Elt F .f32) (W0 : S208x6144.Idx → Elt F .bf16) (W1 : S256x512.Idx → Elt F .bf16)
    (B1 : S1x512.Idx → Elt F .f32) (F1 : S128x64.Idx → Elt F .bf16) (D1 : S1x64.Idx → Elt F .f32)
    (F2 : S64x4.Idx → Elt F .bf16) (D2 : S1x1.Idx → Elt F .f32) : S1280x4.Idx → Elt F .f32 :=
  o.view.read (Elt F) (bodyRun c i x hx w0 hw0 w1 hw1 b1 hb1 f1 hf1 d1 hd1 f2 hf2 d2 hd2 o ho
    (Memref.whole cc0_scratch0) (Memref.isWhole_whole _) (Memref.whole cc0_scratch1) (Memref.isWhole_whole _)
    (hx.unread X) (hw0.unread W0) (hw1.unread W1) (hb1.unread B1) (hf1.unread F1) (hd1.unread D1) (hf2.unread F2)
    (hd2.unread D2)).1

/-- The body on whole staging buffers, the inputs at read contents, the output and the two scratch buffers at
    anything: it runs to the continuation, which holds the inputs as they were, the output at `pointOut` and the
    scratch buffers at something. -/
theorem sound_kernel (c : Dev nD) (i : grid0.Coords)
    (x : Memref sig .tc .vmem S1280x512 .f32) (hx : x.IsWhole) (w0 : Memref sig .tc .vmem S208x6144 .bf16) (hw0 : w0.IsWhole)
    (w1 : Memref sig .tc .vmem S256x512 .bf16) (hw1 : w1.IsWhole) (b1 : Memref sig .tc .vmem S1x512 .f32) (hb1 : b1.IsWhole)
    (f1 : Memref sig .tc .vmem S128x64 .bf16) (hf1 : f1.IsWhole) (d1 : Memref sig .tc .vmem S1x64 .f32) (hd1 : d1.IsWhole)
    (f2 : Memref sig .tc .vmem S64x4 .bf16) (hf2 : f2.IsWhole) (d2 : Memref sig .tc .vmem S1x1 .f32) (hd2 : d2.IsWhole)
    (o : Memref sig .tc .vmem S1280x4 .f32) (ho : o.IsWhole)
    (X : S1280x512.Idx → Elt F .f32) (W0 : S208x6144.Idx → Elt F .bf16) (W1 : S256x512.Idx → Elt F .bf16)
    (B1 : S1x512.Idx → Elt F .f32) (F1 : S128x64.Idx → Elt F .bf16) (D1 : S1x64.Idx → Elt F .f32)
    (F2 : S64x4.Idx → Elt F .bf16) (D2 : S1x1.Idx → Elt F .f32) (E : Set ℕ) (Q : PUnit → sProp 𝕄) :
    iprop(Pipeline.ΦA spec0 c ∗ owns (c : Thread nD τ) x fullShare X ∗ owns (c : Thread nD τ) w0 fullShare W0
        ∗ owns (c : Thread nD τ) w1 fullShare W1 ∗ owns (c : Thread nD τ) b1 fullShare B1
        ∗ owns (c : Thread nD τ) f1 fullShare F1 ∗ owns (c : Thread nD τ) d1 fullShare D1
        ∗ owns (c : Thread nD τ) f2 fullShare F2 ∗ owns (c : Thread nD τ) d2 fullShare D2
        ∗ (∃ Y, owns (c : Thread nD τ) o fullShare Y)
        ∗ (iprop(Pipeline.ΦA spec0 c ∗ owns (c : Thread nD τ) x fullShare X ∗ owns (c : Thread nD τ) w0 fullShare W0
            ∗ owns (c : Thread nD τ) w1 fullShare W1 ∗ owns (c : Thread nD τ) b1 fullShare B1
            ∗ owns (c : Thread nD τ) f1 fullShare F1 ∗ owns (c : Thread nD τ) d1 fullShare D1
            ∗ owns (c : Thread nD τ) f2 fullShare F2 ∗ owns (c : Thread nD τ) d2 fullShare D2
            ∗ owns (c : Thread nD τ) o fullShare (pointOut c i x hx w0 hw0 w1 hw1 b1 hb1 f1 hf1 d1 hd1 f2 hf2 d2 hd2 o ho
                X W0 W1 B1 F1 D1 F2 D2)) -∗ Q ⟨⟩))
      ⊢ wp frame (wpE (defs₀ (F := F)) Variants.none c none) E
          (cc0__lstm_head_kernel i x hx w0 hw0 w1 hw1 b1 hb1 f1 hf1 d1 hd1 f2 hf2 d2 hd2 o ho
            (Memref.whole cc0_scratch0) (Memref.isWhole_whole _) (Memref.whole cc0_scratch1) (Memref.isWhole_whole _)) Q := by
  unfold pointOut Pipeline.ΦA
  rw [scopedRest0_eq]
  simp only [owns_eq_holds c x hx, owns_eq_holds c w0 hw0, owns_eq_holds c w1 hw1, owns_eq_holds c b1 hb1,
    owns_eq_holds c f1 hf1, owns_eq_holds c d1 hd1, owns_eq_holds c f2 hf2, owns_eq_holds c d2 hd2,
    owns_eq_holds c o ho, ho.unread_read]
  iintro ⟨⟨⟨⟨%A, HA⟩, ⟨%B, HB⟩⟩, Hg⟩, H0, H1, H2, H3, H4, H5, H6, H7, ⟨%Y, H8⟩, Hk⟩
  iapply (bodyRun c i x hx w0 hw0 w1 hw1 b1 hb1 f1 hf1 d1 hd1 f2 hf2 d2 hd2 o ho
    (Memref.whole cc0_scratch0) (Memref.isWhole_whole _) (Memref.whole cc0_scratch1) (Memref.isWhole_whole _)
    (hx.unread X) (hw0.unread W0) (hw1.unread W1) (hb1.unread B1) (hf1.unread F1) (hd1.unread D1) (hf2.unread F2)
    (hd2.unread D2)).2 (ho.unread Y) A B E Q
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  isplitl [HB]; · iexact HB
  iintro ⟨H0, H1, H2, H3, H4, H5, H6, H7, H8, HA, HB⟩
  iapply Hk
  isplitl [HA HB Hg]
  · isplitl [HA HB]
    · isplitl [HA]; · iexact HA
      iexact HB
    · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The run with nothing said of the result -/

variable (m : (ℓ : Loc nD τ sig) → Buf (Elt F) ℓ) (ρ : Dev nD → PrngReg)

/-- The proof data: each input's buffer keeps its block (the clipped one filled out past the array's end with a
    word nothing reads); of the output's buffer nothing is said. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) (fun _ => Scalar.ofBits .f32 0#32) (iblk m c 0 t) := by
  dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

/-- The clipped input is fetched at every point: the block on the rows inside the array, `d` past its end. -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk
  rw [A_eq]
  try rfl
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The output window is the one nothing is said of. -/
def forgotten : Fin cfg0.W → Bool := fun w => decide (w = (8 : Fin 9))

theorem defs₀_row (t : Fin cfg0.N) :
    defs₀ (F := F) .tc cfg0.body (cfg0.bodyArgs t (cfg0.slots t)) = bodyAt0 t := by
  unfold defs₀; rw [Defs.onTc_tc]

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, owns (c : Thread nD τ) (st0_8 t) fullShare Y))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ Y, owns (c : Thread nD τ) (st0_8 t) fullShare Y))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (sound_kernel c (grid0.coords t) _ _ _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) (iblk m c 7 t) Set.univ _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨HΦ, H0, H1, H2, H3, H4, H5, H6, H7, H8⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem body_obligation (c : Dev nD) :
    BodyObligationLoose (dats m 0 c) (defs₀ (F := F)) Variants.none () Set.univ forgotten := fun t => by
  rw [bigSep_W0, bigSep_W0, defs₀_row]
  exact triple_restated (sound_body m c t) rfl .rfl fun _ => .rfl

/-- The run: every counter ends at zero and every array no window stages ends as the host operations left it. -/
theorem run_frame : θ_run defs (onTc (τ := τ) (main (F := F))) (s₀ m ρ) (fun r =>
    (∀ c : Dev nD, ∀ b ∈ Pipeline.restRefs sig spec0, r.2.mem ((c.tc : Thread nD τ).loc b) = V m c b) ∧ r.2.sem = fun _ => 0) :=
  Pipeline.θ_run_frame_forget cfgs (dats m) 0 launch0 defs₀ Variants.none forgotten m ρ main
    (hbody := body_obligation m)
    (hshare := fun c => (dats m 0 c).share_full fun _ => rfl) (howed := fun _ _ => rfl)
    (V := V m) (hmain := hmain m Variants.none) (hA := A_eq m) (hΦ := fun _ _ => rfl)
    (Q' := fun r => (∀ c : Dev nD, ∀ b ∈ Pipeline.restRefs sig spec0, r.2.mem ((c.tc : Thread nD τ).loc b) = V m c b) ∧ r.2.sem = fun _ => 0)
    (hQ' := fun _ h => ⟨fun c => (h.1 c).2, h.2⟩)

/-- An argument array is no window's. -/
theorem rest_arg {r : PUnit × MemSt nD τ sig (Elt F)} {c : Dev nD} {b : Ref sig .tc}
    (h : ∀ b ∈ Pipeline.restRefs sig spec0, r.2.mem ((c.tc : Thread nD τ).loc b) = V m c b)
    (hb : b ∈ Pipeline.restRefs sig spec0) {X : Buf (Elt F) ((c : Thread nD τ).loc b)} (hV : V m c b = X) :
    r.2.mem ((c.tc : Thread nD τ).loc b) = X := (h b hb).trans hV

/-- Every argument array ends as it began, from the arrays no window stages. -/
theorem args_kept {r : PUnit × MemSt nD τ sig (Elt F)} (c : Dev nD)
    (h : ∀ b ∈ Pipeline.restRefs sig spec0, r.2.mem ((c.tc : Thread nD τ).loc b) = V m c b) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  ⟨rest_arg m h (Pipeline.mem_restRefs_of main_arg0 (by decide) (by decide)) (V_main_arg0 m c),
    rest_arg m h (Pipeline.mem_restRefs_of main_arg1 (by decide) (by decide)) (V_main_arg1 m c),
    rest_arg m h (Pipeline.mem_restRefs_of main_arg2 (by decide) (by decide)) (V_main_arg2 m c),
    rest_arg m h (Pipeline.mem_restRefs_of main_arg3 (by decide) (by decide)) (V_main_arg3 m c),
    rest_arg m h (Pipeline.mem_restRefs_of main_arg4 (by decide) (by decide)) (V_main_arg4 m c),
    rest_arg m h (Pipeline.mem_restRefs_of main_arg5 (by decide) (by decide)) (V_main_arg5 m c),
    rest_arg m h (Pipeline.mem_restRefs_of main_arg6 (by decide) (by decide)) (V_main_arg6 m c),
    rest_arg m h (Pipeline.mem_restRefs_of main_arg7 (by decide) (by decide)) (V_main_arg7 m c),
    rest_arg m h (Pipeline.mem_restRefs_of main_arg8 (by decide) (by decide)) (V_main_arg8 m c),
    rest_arg m h (Pipeline.mem_restRefs_of main_arg9 (by decide) (by decide)) (V_main_arg9 m c),
    rest_arg m h (Pipeline.mem_restRefs_of main_arg10 (by decide) (by decide)) (V_main_arg10 m c),
    rest_arg m h (Pipeline.mem_restRefs_of main_arg11 (by decide) (by decide)) (V_main_arg11 m c),
    rest_arg m h (Pipeline.mem_restRefs_of main_arg12 (by decide) (by decide)) (V_main_arg12 m c),
    rest_arg m h (Pipeline.mem_restRefs_of main_arg13 (by decide) (by decide)) (V_main_arg13 m c),
    rest_arg m h (Pipeline.mem_restRefs_of main_arg14 (by decide) (by decide)) (V_main_arg14 m c),
    rest_arg m h (Pipeline.mem_restRefs_of main_arg15 (by decide) (by decide)) (V_main_arg15 m c),
    rest_arg m h (Pipeline.mem_restRefs_of main_arg16 (by decide) (by decide)) (V_main_arg16 m c),
    rest_arg m h (Pipeline.mem_restRefs_of main_arg17 (by decide) (by decide)) (V_main_arg17 m c),
    rest_arg m h (Pipeline.mem_restRefs_of main_arg18 (by decide) (by decide)) (V_main_arg18 m c),
    rest_arg m h (Pipeline.mem_restRefs_of main_arg19 (by decide) (by decide)) (V_main_arg19 m c),
    rest_arg m h (Pipeline.mem_restRefs_of main_arg20 (by decide) (by decide)) (V_main_arg20 m c),
    rest_arg m h (Pipeline.mem_restRefs_of main_arg21 (by decide) (by decide)) (V_main_arg21 m c),
    rest_arg m h (Pipeline.mem_restRefs_of main_arg22 (by decide) (by decide)) (V_main_arg22 m c),
    rest_arg m h (Pipeline.mem_restRefs_of main_arg23 (by decide) (by decide)) (V_main_arg23 m c)⟩

end Cert.KernelIdeal.Proof

end
-- ==== Proof.FiniteInputs.lean ====
/-
  The precondition read back: the last twelve columns of `x`, the input projection and the first layer's input weights are
  real numbers.
-/
module

public import proofs.«01_k».proof.Pre_finite_inputs
public import Idealize.ShloMosaic.Lib.Pointwise
public import Idealize.ShloMosaic.Lib.ReduceAll
public import Idealize.ShloMosaic.PureOps.Ideal

@[expose] public section

noncomputable section

namespace Cert.Pre_finite_inputs

open Idealize.ShloMosaic

namespace Proof

theorem facts : Facts := ⟨by decide, by decide, by decide, by decide, by decide, by decide, by decide, by decide⟩

/-- An absolute value below the infinity is a real number's. -/
theorem real_of_lt (a : EReal) (h : Ideal.cmp .olt (max a (-a)) (Ideal.ofBits .f32 0x7F800000#32) = 1#1) : ∃ r : ℝ, a = r := by
  have e : Ideal.ofBits .f32 0x7F800000#32 = ⊤ := by
    simp [Ideal.ofBits, Ideal.ieee]
  rw [e] at h
  induction a with
  | coe r => exact ⟨r, rfl⟩
  | top => exact absurd h (by simp [Ideal.cmp])
  | bot => exact absurd h (by simp [Ideal.cmp])

instance : Subsingleton S_.Idx := ⟨fun a b => funext fun i => i.elim0⟩

/-- A conjunct of the precondition, at an index. -/
theorem real_of_all {s : Shape} {axes : List (Fin s.rank)} (x : FVec Ideal s .f32) (hb : S_.BroadcastsInDim s (![] : Fin 0 → Fin s.rank))
    (hr : s.ReducesTo axes S_) (hu : 0 < S_.numel) (z : S_.Idx)
    (h : Host.reduce IntOp.andi (cmpf .olt (Host.absf x) (broadcastInDim s ![] hb (constant S_ .f32 0x7F800000#32)))
      (constantI S_ 1 1#1) hr hu z = 1#1) (i : s.Idx) : ∃ r : ℝ, (x i : EReal) = r :=
  real_of_lt _ (Host.reduce_andi_all _ _ hr hu z h i)

variable [Facts]

theorem real_inputs
    (a0 : FVec Ideal S50000x128 .f32) (a1 : IVec S2x800000 32) (a2 : FVec Ideal S128x64 .f32) (a3 : FVec Ideal S64 .f32)
    (a4 : FVec Ideal S64x64 .f32) (a5 : FVec Ideal S64 .f32) (a6 : FVec Ideal S64x32 .f32) (a7 : FVec Ideal S32 .f32)
    (a8 : FVec Ideal S32x16 .f32) (a9 : FVec Ideal S16 .f32) (a10 : FVec Ideal S1x16 .f32) (a11 : FVec Ideal S16 .f32)
    (a12 : FVec Ideal S128x16 .f32) (a13 : FVec Ideal S128x32 .f32) (a14 a15 : FVec Ideal S128 .f32) (a16 a17 : FVec Ideal S128x32 .f32)
    (a18 a19 : FVec Ideal S128 .f32) (a20 : FVec Ideal S32x16 .f32) (a21 : FVec Ideal S16 .f32) (a22 : FVec Ideal S16x1 .f32)
    (a23 : FVec Ideal S1 .f32)
    (h : fn (F := Ideal) a0 a1 a2 a3 a4 a5 a6 a7 a8 a9 a10 a11 a12 a13 a14 a15 a16 a17 a18 a19 a20 a21 a22 a23 = fun _ => 1#1) :
    (∀ (n : Fin 50000) (j : Fin 12), ∃ r : ℝ, (a0 (ix2 n ⟨116 + j, by omega⟩) : EReal) = r)
      ∧ (∀ p : Fin 16, ∃ r : ℝ, (a10 (ix2 0 p) : EReal) = r)
      ∧ ∀ (q : Fin 128) (p : Fin 16), ∃ r : ℝ, (a12 (ix2 q p) : EReal) = r := by
  have h0 := congrFun h (Shape.Idx.first Facts.h_S_)
  obtain ⟨h1, h3⟩ := IntOp.andi_eq_one.1 h0
  obtain ⟨h1, h2⟩ := IntOp.andi_eq_one.1 h1
  refine ⟨fun n j => ?_, fun p => real_of_all _ _ _ _ _ h2 _, fun q p => real_of_all _ _ _ _ _ h3 _⟩
  obtain ⟨r, hr⟩ := real_of_all _ _ _ _ _ h1 (ix2 n j)
  refine ⟨r, Eq.trans ?_ hr⟩
  pointwise

end Proof

end Cert.Pre_finite_inputs

end
-- ==== Proof.Host.lean ====
/-
  The arrays the host operations prepare for the launch, entry by entry: the two layers' weights spread over the four
  nodes of a row and scaled for the gates, the time series' weights multiplied out, the biases, and the head's weights.
-/
module

public import proofs.«01_k».proof.Proof.FrameIdeal
public import Idealize.ShloMosaic.Lib.Pointwise
public import Idealize.ShloMosaic.Lib.Claim

@[expose] public section

set_option maxRecDepth 16384

noncomputable section

namespace Cert.KernelIdeal.Proof

open Cert.KernelIdeal Cert.KernelIdeal.Gen

open Idealize.ShloMosaic
open Idealize.ShloMosaic.TcCoe Idealize.ShloMosaic.Tactic

/-! ### The host's concatenations -/

def catS (a b c d : FVec Ideal S32 .f32) : FVec Ideal S128 .f32 :=
  concatenate S128 0 [⟨S32, a⟩, ⟨S32, b⟩, ⟨S32, c⟩, ⟨S32, d⟩] concatenates_S32_S32_S32_S32_S128_d0
def catK (a : FVec Ideal S1x6144 .f32) (b : FVec Ideal S15x6144 .f32) : FVec Ideal S16x6144 .f32 :=
  concatenate S16x6144 0 [⟨S1x6144, a⟩, ⟨S15x6144, b⟩] concatenates_S1x6144_S15x6144_S16x6144_d0
def catW (a : FVec Ideal S128x6144 .f32) (b : FVec Ideal S64x6144 .f32) (d : FVec Ideal S16x6144 .f32) : FVec Ideal S208x6144 .f32 :=
  concatenate S208x6144 0 [⟨S128x6144, a⟩, ⟨S64x6144, b⟩, ⟨S16x6144, d⟩] concatenates_S128x6144_S64x6144_S16x6144_S208x6144_d0
def catI (a b : FVec Ideal S128x32 .f32) : FVec Ideal S128x64 .f32 :=
  concatenate S128x64 1 [⟨S128x32, a⟩, ⟨S128x32, b⟩] concatenates_S128x32_S128x32_S128x64_d1
def catB (a b : FVec Ideal S128x512 .f32) : FVec Ideal S256x512 .f32 :=
  concatenate S256x512 0 [⟨S128x512, a⟩, ⟨S128x512, b⟩] concatenates_S128x512_S128x512_S256x512_d0

theorem catS_eq (a b c d : FVec Ideal S32 .f32) :
    concatenate S128 0 [⟨S32, a⟩, ⟨S32, b⟩, ⟨S32, c⟩, ⟨S32, d⟩] concatenates_S32_S32_S32_S32_S128_d0 = catS a b c d := rfl
theorem catK_eq (a : FVec Ideal S1x6144 .f32) (b : FVec Ideal S15x6144 .f32) :
    concatenate S16x6144 0 [⟨S1x6144, a⟩, ⟨S15x6144, b⟩] concatenates_S1x6144_S15x6144_S16x6144_d0 = catK a b := rfl
theorem catW_eq (a : FVec Ideal S128x6144 .f32) (b : FVec Ideal S64x6144 .f32) (d : FVec Ideal S16x6144 .f32) :
    concatenate S208x6144 0 [⟨S128x6144, a⟩, ⟨S64x6144, b⟩, ⟨S16x6144, d⟩] concatenates_S128x6144_S64x6144_S16x6144_S208x6144_d0
      = catW a b d := rfl
theorem catI_eq (a b : FVec Ideal S128x32 .f32) :
    concatenate S128x64 1 [⟨S128x32, a⟩, ⟨S128x32, b⟩] concatenates_S128x32_S128x32_S128x64_d1 = catI a b := rfl
theorem catB_eq (a b : FVec Ideal S128x512 .f32) :
    concatenate S256x512 0 [⟨S128x512, a⟩, ⟨S128x512, b⟩] concatenates_S128x512_S128x512_S256x512_d0 = catB a b := rfl

/-! ### The arrays -/

/-- One half, in every entry of a scalar. -/
def halfS : FVec Ideal S_ .f32 := constant S_ .f32 1056964608#32

/-- The identities of four nodes and of twelve steps. -/
def eye4 : FVec Ideal S4x4 .f32 :=
  uitofp .f32 (cmpi .eq (addi (iotaInDim S4x4 32 0) (broadcastInDim S4x4 ![] bcast_S_S4x4 (constantI S_ 32 0#32))) (iotaInDim S4x4 32 1))
def eye12 : FVec Ideal S12x12 .f32 :=
  uitofp .f32 (cmpi .eq (addi (iotaInDim S12x12 32 0) (broadcastInDim S12x12 ![] bcast_S_S12x12 (constantI S_ 32 0#32))) (iotaInDim S12x12 32 1))

/-- The gates' scales, a row. -/
def scArr : FVec Ideal S1x128 .f32 :=
  broadcastInDim S1x128 ![1] bcast_S128_S1x128_1
    (catS (broadcastInDim S32 ![] bcast_S_S32 halfS) (broadcastInDim S32 ![] bcast_S_S32 halfS)
      (broadcastInDim S32 ![] bcast_S_S32 (constant S_ .f32 1065353216#32)) (broadcastInDim S32 ![] bcast_S_S32 halfS))

/-- A weight array spread over the four nodes of a row. -/
def spread (w : FVec Ideal S32x128 .f32) : FVec Ideal S128x512 .f32 :=
  shapeCast S128x512
    (mulf
      (broadcastInDim S4x32x4x4x32 ![0, 1, 2, 3, 4] bcast_S4x1x1x4x1_S4x32x4x4x32_0_1_2_3_4
        (broadcastInDim S4x1x1x4x1 ![0, 3] bcast_S4x4_S4x1x1x4x1_0_3 eye4))
      (broadcastInDim S4x32x4x4x32 ![0, 1, 2, 3, 4] bcast_S1x32x4x1x32_S4x32x4x4x32_0_1_2_3_4
        (broadcastInDim S1x32x4x1x32 ![1, 2, 4] bcast_S32x4x32_S1x32x4x1x32_1_2_4
          (shapeCast S32x4x32 w shapeCasts_S32x128_S32x4x32)))) shapeCasts_S4x32x4x4x32_S128x512

/-- The first layer's recurrent weights, scaled. -/
def recW (w : FVec Ideal S128x32 .f32) : FVec Ideal S32x128 .f32 :=
  mulf (mulf (broadcastInDim S32x128 ![] bcast_S_S32x128 halfS) (transpose S32x128 [1, 0] w transposes_S128x32_S32x128_1_0))
    (broadcastInDim S32x128 ![0, 1] bcast_S1x128_S32x128_0_1 scArr)

/-- An array repeated for the twelve steps. -/
def tileM (w : FVec Ideal S128x512 .f32) : FVec Ideal S128x6144 .f32 :=
  shapeCast S128x6144 (broadcastInDim S1x128x12x512 ![0, 1, 2, 3] bcast_S1x128x1x512_S1x128x12x512_0_1_2_3
    (shapeCast S1x128x1x512 w shapeCasts_S128x512_S1x128x1x512)) shapeCasts_S1x128x12x512_S128x6144

/-- The time series' weights through the first layer's input weights, scaled. -/
def timeV (a : FVec Ideal S1x16 .f32) (w : FVec Ideal S128x16 .f32) : FVec Ideal S1x128 .f32 :=
  mulf (Host.dotGeneral (F := Ideal) dot_S1x16_S16x128_S1x128_1_0_0_1_n_n none a (transpose S16x128 [1, 0] w transposes_S128x16_S16x128_1_0)) scArr

/-- Those at the rows of their step and node, -/
def timeW (v : FVec Ideal S1x128 .f32) : FVec Ideal S48x6144 .f32 :=
  shapeCast S48x6144
    (mulf
      (broadcastInDim S4x12x12x4x4x32 ![0, 1, 2, 3, 4, 5] bcast_S4x12x12x1x4x1_S4x12x12x4x4x32_0_1_2_3_4_5
        (mulf
          (broadcastInDim S4x12x12x1x4x1 ![0, 1, 2, 3, 4, 5] bcast_S1x12x12x1x1x1_S4x12x12x1x4x1_0_1_2_3_4_5
            (broadcastInDim S1x12x12x1x1x1 ![1, 2] bcast_S12x12_S1x12x12x1x1x1_1_2 eye12))
          (broadcastInDim S4x12x12x1x4x1 ![0, 1, 2, 3, 4, 5] bcast_S4x1x1x1x4x1_S4x12x12x1x4x1_0_1_2_3_4_5
            (broadcastInDim S4x1x1x1x4x1 ![0, 4] bcast_S4x4_S4x1x1x1x4x1_0_4 eye4))))
      (broadcastInDim S4x12x12x4x4x32 ![0, 1, 2, 3, 4, 5] bcast_S1x1x1x4x1x32_S4x12x12x4x4x32_0_1_2_3_4_5
        (broadcastInDim S1x1x1x4x1x32 ![3, 5] bcast_S4x32_S1x1x1x4x1x32_3_5 (shapeCast S4x32 v shapeCasts_S1x128_S4x32))))
    shapeCasts_S4x12x12x4x4x32_S48x6144

/-- with four rows of zeros before each node's twelve. -/
def padW (w : FVec Ideal S48x6144 .f32) : FVec Ideal S64x6144 .f32 :=
  shapeCast S64x6144 (pad S4x16x6144 ![0, 4, 0] ![0, 0, 0] ![0, 0, 0] (shapeCast S4x12x6144 w shapeCasts_S48x6144_S4x12x6144)
    (sitofp (F := Ideal) .f32 (constantI S_ 32 0#32)) pads_S4x12x6144_S4x16x6144_000_400_000 h_S_) shapeCasts_S4x16x6144_S64x6144

/-- The first layer's bias, scaled, -/
def bias0 (t : FVec Ideal S16 .f32) (w : FVec Ideal S128x16 .f32) (a b : FVec Ideal S128 .f32) : FVec Ideal S1x128 .f32 :=
  mulf (broadcastInDim S1x128 ![1] bcast_S128_S1x128_1
    (addf (addf (Host.dotGeneral (F := Ideal) dot_S16_S16x128_S128_0_0_n_1_n_n none t (transpose S16x128 [1, 0] w transposes_S128x16_S16x128_1_0)) a) b)) scArr

/-- the second's, -/
def bias1 (a b : FVec Ideal S128 .f32) : FVec Ideal S1x128 .f32 :=
  mulf (broadcastInDim S1x128 ![1] bcast_S128_S1x128_1 (addf a b)) scArr

/-- a bias for the four nodes of a row, -/
def spreadB (k : FVec Ideal S1x128 .f32) : FVec Ideal S1x512 .f32 :=
  shapeCast S1x512 (broadcastInDim S4x4x32 ![0, 1, 2] bcast_S4x1x32_S4x4x32_0_1_2 (shapeCast S4x1x32 k shapeCasts_S1x128_S4x1x32))
    shapeCasts_S4x4x32_S1x512

/-- and that repeated for the twelve steps. -/
def tileB (k : FVec Ideal S1x512 .f32) : FVec Ideal S1x6144 .f32 :=
  shapeCast S1x6144 (broadcastInDim S1x1x12x512 ![0, 1, 2, 3] bcast_S1x1x1x512_S1x1x12x512_0_1_2_3
    (shapeCast S1x1x1x512 k shapeCasts_S1x512_S1x1x1x512)) shapeCasts_S1x1x12x512_S1x6144

/-- The first layer's weights as the launch is given them, -/
def weights0 (a : FVec Ideal S1x16 .f32) (t : FVec Ideal S16 .f32) (w : FVec Ideal S128x16 .f32) (r : FVec Ideal S128x32 .f32)
    (b b' : FVec Ideal S128 .f32) : FVec Ideal S208x6144 .f32 :=
  catW (tileM (spread (recW r))) (padW (timeW (timeV a w)))
    (catK (tileB (spreadB (bias0 t w b b'))) (broadcastInDim S15x6144 ![] bcast_S_S15x6144 (constant S_ .f32 0#32)))

/-- the second's, scaled, -/
def wideW (w r : FVec Ideal S128x32 .f32) : FVec Ideal S64x128 .f32 :=
  mulf (mulf (broadcastInDim S64x128 ![] bcast_S_S64x128 halfS) (transpose S64x128 [1, 0] (catI w r) transposes_S128x64_S64x128_1_0))
    (broadcastInDim S64x128 ![0, 1] bcast_S1x128_S64x128_0_1 scArr)

/-- as the launch is given them, -/
def weights1 (w r : FVec Ideal S128x32 .f32) : FVec Ideal S256x512 .f32 :=
  catB (spread (extractStridedSlice S32x128 ![0, 0] (wideW w r) slices_S64x128_S32x128_0_0))
    (spread (extractStridedSlice S32x128 ![32, 0] (wideW w r) slices_S64x128_S32x128_32_0))

/-- and the head's. -/
def head1 (w : FVec Ideal S32x16 .f32) : FVec Ideal S128x64 .f32 :=
  shapeCast S128x64
    (mulf
      (broadcastInDim S4x32x4x16 ![0, 1, 2, 3] bcast_S4x1x4x1_S4x32x4x16_0_1_2_3
        (broadcastInDim S4x1x4x1 ![0, 2] bcast_S4x4_S4x1x4x1_0_2 eye4))
      (broadcastInDim S4x32x4x16 ![0, 1, 2, 3] bcast_S1x32x1x16_S4x32x4x16_0_1_2_3
        (broadcastInDim S1x32x1x16 ![1, 3] bcast_S32x16_S1x32x1x16_1_3
          (mulf (broadcastInDim S32x16 ![] bcast_S_S32x16 halfS) w)))) shapeCasts_S4x32x4x16_S128x64
def headB (b : FVec Ideal S16 .f32) : FVec Ideal S1x64 .f32 :=
  shapeCast S1x64 (broadcastInDim S1x4x16 ![0, 1, 2] bcast_S1x1x16_S1x4x16_0_1_2 (broadcastInDim S1x1x16 ![2] bcast_S16_S1x1x16_2 b))
    shapeCasts_S1x4x16_S1x64
def head2 (w : FVec Ideal S16x1 .f32) : FVec Ideal S64x4 .f32 :=
  shapeCast S64x4
    (mulf
      (broadcastInDim S4x16x4 ![0, 1, 2] bcast_S4x1x4_S4x16x4_0_1_2 (broadcastInDim S4x1x4 ![0, 2] bcast_S4x4_S4x1x4_0_2 eye4))
      (broadcastInDim S4x16x4 ![0, 1, 2] bcast_S1x16x1_S4x16x4_0_1_2
        (broadcastInDim S1x16x1 ![1] bcast_S16_S1x16x1_1 (shapeCast S16 w shapeCasts_S16x1_S16)))) shapeCasts_S4x16x4_S64x4

/-! ### What the launch is given -/

variable (m : (ℓ : Loc nD τ sig) → Buf (Elt Ideal) ℓ) (c : Dev nD)

set_option maxHeartbeats 1000000 in
theorem given_0 : (V m c main_v0 : FVec Ideal S12500x512 .f32) = shapeCast S12500x512 (m ((c : Thread nD τ).loc main_arg0)) shapeCasts_S50000x128_S12500x512 := by
  unfold V
  simp only [List.flatten_cons, List.flatten_nil, hostOps0, hostOps0_1, hostOps0_2, List.cons_append, List.nil_append,
    StableHlo.after_cons, StableHlo.after_nil]
  after_results_simp
  rfl

set_option maxHeartbeats 1000000 in
theorem given_112 : (V m c main_v112 : FVec Ideal S208x6144 .bf16) = truncf .bf16 (weights0 (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) bitsLt_bf16_f32 := by
  unfold V
  simp only [List.flatten_cons, List.flatten_nil, hostOps0, hostOps0_1, hostOps0_2, List.cons_append, List.nil_append,
    StableHlo.after_cons, StableHlo.after_nil]
  after_results_simp
  simp only [Matrix.cons_val, catS_eq, catI_eq, catK_eq, catW_eq, catB_eq]
  after_results_simp
  simp only [Matrix.cons_val, catS_eq, catI_eq, catK_eq, catW_eq, catB_eq]
  after_results_simp
  rfl

set_option maxHeartbeats 1000000 in
theorem given_113 : (V m c main_v113 : FVec Ideal S256x512 .bf16) = truncf .bf16 (weights1 (m ((c : Thread nD τ).loc main_arg16)) (m ((c : Thread nD τ).loc main_arg17))) bitsLt_bf16_f32 := by
  unfold V
  simp only [List.flatten_cons, List.flatten_nil, hostOps0, hostOps0_1, hostOps0_2, List.cons_append, List.nil_append,
    StableHlo.after_cons, StableHlo.after_nil]
  after_results_simp
  simp only [Matrix.cons_val, catS_eq, catI_eq, catK_eq, catW_eq, catB_eq]
  after_results_simp
  simp only [Matrix.cons_val, catS_eq, catI_eq, catK_eq, catW_eq, catB_eq]
  after_results_simp
  rfl

set_option maxHeartbeats 1000000 in
theorem given_79 : (V m c main_v79 : FVec Ideal S1x512 .f32) = spreadB (bias1 (m ((c : Thread nD τ).loc main_arg18)) (m ((c : Thread nD τ).loc main_arg19))) := by
  unfold V
  simp only [List.flatten_cons, List.flatten_nil, hostOps0, hostOps0_1, hostOps0_2, List.cons_append, List.nil_append,
    StableHlo.after_cons, StableHlo.after_nil]
  after_results_simp
  simp only [Matrix.cons_val, catS_eq, catI_eq, catK_eq, catW_eq, catB_eq]
  after_results_simp
  rfl

set_option maxHeartbeats 1000000 in
theorem given_114 : (V m c main_v114 : FVec Ideal S128x64 .bf16) = truncf .bf16 (head1 (m ((c : Thread nD τ).loc main_arg20))) bitsLt_bf16_f32 := by
  unfold V
  simp only [List.flatten_cons, List.flatten_nil, hostOps0, hostOps0_1, hostOps0_2, List.cons_append, List.nil_append,
    StableHlo.after_cons, StableHlo.after_nil]
  after_results_simp
  rfl

set_option maxHeartbeats 1000000 in
theorem given_103 : (V m c main_v103 : FVec Ideal S1x64 .f32) = headB (m ((c : Thread nD τ).loc main_arg21)) := by
  unfold V
  simp only [List.flatten_cons, List.flatten_nil, hostOps0, hostOps0_1, hostOps0_2, List.cons_append, List.nil_append,
    StableHlo.after_cons, StableHlo.after_nil]
  after_results_simp
  rfl

set_option maxHeartbeats 1000000 in
theorem given_115 : (V m c main_v115 : FVec Ideal S64x4 .bf16) = truncf .bf16 (head2 (m ((c : Thread nD τ).loc main_arg22))) bitsLt_bf16_f32 := by
  unfold V
  simp only [List.flatten_cons, List.flatten_nil, hostOps0, hostOps0_1, hostOps0_2, List.cons_append, List.nil_append,
    StableHlo.after_cons, StableHlo.after_nil]
  after_results_simp
  rfl

set_option maxHeartbeats 1000000 in
theorem given_111 : (V m c main_v111 : FVec Ideal S1x1 .f32) = broadcastInDim S1x1 ![1] bcast_S1_S1x1_1 (m ((c : Thread nD τ).loc main_arg23)) := by
  unfold V
  simp only [List.flatten_cons, List.flatten_nil, hostOps0, hostOps0_1, hostOps0_2, List.cons_append, List.nil_append,
    StableHlo.after_cons, StableHlo.after_nil]
  after_results_simp

end Cert.KernelIdeal.Proof

end
-- ==== Proof.Row.lean ====
/-
  One row of the kernel's two stacked cells, and what each payload of the body computes at a row.

  A row carries the hidden and the cell states of both layers, 128 entries each (four nodes of 32). `gateA`, `gateB` are
  the gates of the two layers after their `tanh`, `cellC` and `cellH` the new cell state and the new hidden state. The
  lemmas below read the payloads of the body at a row as these functions.
-/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Proof

open Cert.KernelIdeal Cert.KernelIdeal.Gen

open Idealize.ShloMosaic Idealize.ShloMosaic.TcCoe Idealize.SL.Sem

/-- One half, as the kernel spells it. -/
def half : EReal := Ideal.ofBits .f32 0x3F000000#32

/-- The first layer's gates of a row: the state in front, the row's constant part behind. -/
def gateA (h : Fin 128 → EReal) (xs : Fin 208 → EReal) (w : Fin 208 → Fin 512 → EReal) (q : Fin 512) : EReal :=
  Ideal.tanh (∑ k : Fin 208, (if hk : (k : ℕ) < 128 then h ⟨k, hk⟩ else xs k) * w k q)

/-- The second layer's gates of a row: both layers' states, and a bias. -/
def gateB (h h' : Fin 128 → EReal) (w : Fin 256 → Fin 512 → EReal) (b : Fin 512 → EReal) (q : Fin 512) : EReal :=
  Ideal.tanh ((∑ k : Fin 256, (if hk : (k : ℕ) < 128 then h ⟨k, hk⟩ else h' ⟨k - 128, by omega⟩) * w k q) + b q)

/-- The new cell state from the gates `a` and the old one. -/
def cellC (a : Fin 512 → EReal) (c : Fin 128 → EReal) (n : Fin 128) : EReal :=
  half * ((a ⟨128 + n, by omega⟩ * c n + c n) + (a ⟨n, by omega⟩ * a ⟨256 + n, by omega⟩ + a ⟨256 + n, by omega⟩))

/-- The new hidden state from the gates `a` and the new cell state. -/
def cellH (a : Fin 512 → EReal) (c : Fin 128 → EReal) (n : Fin 128) : EReal :=
  a ⟨384 + n, by omega⟩ * Ideal.tanh (c n) + Ideal.tanh (c n)

/-- The head of a row: the last hidden state through two dense layers. -/
def headRow (h : Fin 128 → EReal) (f1 : Fin 128 → Fin 64 → EReal) (d1 : Fin 64 → EReal) (f2 : Fin 64 → Fin 4 → EReal) (d2 : EReal)
    (g : Fin 4) : EReal :=
  (∑ m : Fin 64, max ((∑ k : Fin 128, h k * f1 k m) + d1 m) 0 * f2 m g) + d2

/-! ### The payloads -/

theorem pay25_row (w : FVec Ideal S208x512 .bf16) (v : FVec Ideal S640x208 .bf16) (r : Fin 640) (q : Fin 512) :
    k0_pay25 (F := Ideal) w v (ix2 r q) = Ideal.tanh (∑ k : Fin 208, v (ix2 r k) * w (ix2 k q)) := by
  pointwise! [k0_pay25, k0_pay24]

theorem pay36_row (b : FVec Ideal S1x512 .f32) (w : FVec Ideal S256x512 .bf16) (v : FVec Ideal S640x256 .bf16) (r : Fin 640)
    (q : Fin 512) : k0_pay36 (F := Ideal) b v w (ix2 r q)
      = Ideal.tanh ((∑ k : Fin 256, v (ix2 r k) * w (ix2 k q)) + b (ix2 0 q)) := by
  pointwise! [k0_pay36]

theorem pay32_row (c : FVec Ideal S640x128 .f32) (a : FVec Ideal S640x512 .f32) (r : Fin 640) (n : Fin 128) :
    k0_pay32 (F := Ideal) c a (ix2 r n) = cellC (fun q => a (ix2 r q)) (fun n => c (ix2 r n)) n := by
  pointwise [k0_pay32, cellC, half]

theorem pay33_row (c : FVec Ideal S640x128 .f32) (a : FVec Ideal S640x512 .f32) (r : Fin 640) (n : Fin 128) :
    k0_pay33 (F := Ideal) c a (ix2 r n)
      = cellH (fun q => a (ix2 r q)) (fun n => k0_pay32 (F := Ideal) c a (ix2 r n)) n := by
  pointwise! [k0_pay33, cellH]

theorem pay7_row (w : FVec Ideal S208x512 .bf16) (v : FVec Ideal S640x80 .bf16) (r : Fin 640) (q : Fin 512) :
    k0_pay7 (F := Ideal) w v (ix2 r q)
      = Ideal.tanh (∑ k : Fin 80, v (ix2 r k) * w (ix2 ⟨128 + k, by omega⟩ q)) := by
  pointwise! [k0_pay7, k0_pay5]

theorem pay17_row (b : FVec Ideal S1x512 .f32) (w : FVec Ideal S128x512 .bf16) (v : FVec Ideal S640x128 .bf16) (r : Fin 640)
    (q : Fin 512) : k0_pay17 (F := Ideal) b v w (ix2 r q)
      = Ideal.tanh ((∑ k : Fin 128, v (ix2 r k) * w (ix2 k q)) + b (ix2 0 q)) := by
  pointwise! [k0_pay17]

theorem pay13_row (a : FVec Ideal S640x512 .f32) (r : Fin 640) (n : Fin 128) :
    k0_pay13 (F := Ideal) a (ix2 r n) = cellC (fun q => a (ix2 r q)) (fun _ => 0) n := by
  have e (A : Fin 512 → EReal) : cellC A (fun _ => 0) n = half * (A ⟨n, by omega⟩ * A ⟨256 + n, by omega⟩ + A ⟨256 + n, by omega⟩) := by
    unfold cellC
    rw [mul_zero, zero_add, zero_add]
  rw [e]
  pointwise [k0_pay13, half]

theorem pay14_row (a : FVec Ideal S640x512 .f32) (r : Fin 640) (n : Fin 128) :
    k0_pay14 (F := Ideal) a (ix2 r n) = cellH (fun q => a (ix2 r q)) (fun n => k0_pay13 (F := Ideal) a (ix2 r n)) n := by
  pointwise! [k0_pay14, cellH]

theorem pay217_row (h : FVec Ideal S640x128 .bf16) (f1 : FVec Ideal S128x64 .bf16) (d1 : FVec Ideal S1x64 .f32)
    (f2 : FVec Ideal S64x4 .bf16) (d2 : FVec Ideal S1x1 .f32) (r : Fin 640) (g : Fin 4) :
    k0_pay217 (F := Ideal) h f1 d1 f2 d2 (ix2 r g)
      = headRow (fun k => h (ix2 r k)) (fun k m => f1 (ix2 k m)) (fun m => d1 (ix2 0 m)) (fun m g => f2 (ix2 m g)) (d2 (ix2 0 0)) g := by
  pointwise! [k0_pay217, headRow]

/-! ### The scratch contents before the first step -/

/-- What the first scratch buffer holds of a row besides the state: the row's time entries of its four nodes, then ones. -/
def rowConst (x : Fin 512 → EReal) (k : Fin 208) : EReal :=
  if (k : ℕ) < 128 then 0
  else if h : (k : ℕ) < 192 then x ⟨(k - 128) / 16 * 128 + 112 + (k - 128) % 16, by omega⟩
  else 1

theorem pay2_row (x : FVec Ideal S1280x512 .f32) (r : Fin 1280) (k : Fin 208) :
    k0_pay2 (F := Ideal) x (ix2 r k) = rowConst (fun q => x (ix2 r q)) k := by
  pointwise [k0_pay2, k0_pay1, rowConst]
  by_cases h0 : (k : ℕ) < 128
  · rw [dif_pos h0, if_pos h0]
  rw [dif_neg h0, if_neg h0]
  by_cases h1 : (k : ℕ) < 192
  · rw [dif_pos (show (k : ℕ) - 128 < 64 by omega), dif_pos h1]
    split_ifs <;> exact congrArg (fun q => x (ix2 r q)) (Fin.ext (by dsimp only; omega))
  · rw [dif_neg (show ¬ (k : ℕ) - 128 < 64 by omega), dif_neg h1]

theorem pay3_row (r : Fin 1280) (k : Fin 256) : k0_pay3 (F := Ideal) (ix2 r k) = (0 : EReal) := by
  pointwise [k0_pay3, k0_pay1]
  split_ifs <;> rfl

end Cert.KernelIdeal.Proof

end
-- ==== Proof.HostRow.lean ====
/-
  The entries of the arrays the host operations prepare: each weight at a row and a column of the launch's operands, in
  terms of the program's own arguments.
-/
module

public import proofs.«01_k».proof.Proof.Host
public import Idealize.ShloMosaic.Lib.Pointwise
public import proofs.«01_k».proof.Proof.Row

@[expose] public section

set_option maxRecDepth 16384

noncomputable section

namespace Cert.KernelIdeal.Proof

open Cert.KernelIdeal Cert.KernelIdeal.Gen

open Idealize.ShloMosaic
open Idealize.ShloMosaic.TcCoe Idealize.ShloMosaic.Tactic

/-- The gate column of a column of the spread weights, and its node. -/
def col (q : Fin 512) : Fin 128 := ⟨q / 128 * 32 + q % 32, by omega⟩
def grp (q : Fin 512) : Fin 4 := ⟨q / 32 % 4, by omega⟩
def node (n : Fin 128) : Fin 4 := ⟨n / 32, by omega⟩
def unit (n : Fin 128) : Fin 32 := ⟨n % 32, by omega⟩
def sc (n : Fin 128) : EReal := if 64 ≤ (n : ℕ) ∧ (n : ℕ) < 96 then 1 else half

theorem halfS_at : halfS = fun _ => half := by
  funext i
  pointwise [halfS]
  rfl

theorem one_or_zero (p : Prop) [Decidable p] :
    (FloatOps.uitofp (F := Ideal) .f32 (if p then 1#1 else 0#1) : EReal) = if p then 1 else 0 := by
  split
  · show (((1 : ℕ) : ℝ) : EReal) = 1
    norm_num
  · show (((0 : ℕ) : ℝ) : EReal) = 0
    norm_num

theorem eye4_at (a b : Fin 4) : eye4 (ix2 a b) = if a = b then 1 else 0 := by
  pointwise [eye4]
  have e : ∀ a b : Fin 4, IntOp.cmpi CmpIPredicate.eq (IntOp.addi (BitVec.ofNat 32 a) 0#32) (BitVec.ofNat 32 b)
      = if a = b then 1#1 else 0#1 := by decide +kernel
  rw [e]
  exact one_or_zero _

theorem eye12_at (a b : Fin 12) : eye12 (ix2 a b) = if a = b then 1 else 0 := by
  pointwise [eye12]
  have e : ∀ a b : Fin 12, IntOp.cmpi CmpIPredicate.eq (IntOp.addi (BitVec.ofNat 32 a) 0#32) (BitVec.ofNat 32 b)
      = if a = b then 1#1 else 0#1 := by decide +kernel
  rw [e]
  exact one_or_zero _

theorem scArr_at (z : Fin 1) (n : Fin 128) : scArr (ix2 z n) = sc n := by
  pointwise [scArr, catS]
  rw [halfS_at]
  unfold sc
  by_cases h0 : (n : ℕ) < 32
  · rw [dif_pos h0, if_neg (by omega)]
  rw [dif_neg h0]
  by_cases h1 : (n : ℕ) - 32 < 32
  · rw [dif_pos h1, if_neg (by omega)]
  rw [dif_neg h1]
  by_cases h2 : (n : ℕ) - 32 - 32 < 32
  · rw [dif_pos h2, if_pos (by omega)]
  · rw [dif_neg h2, if_neg (by omega)]

theorem spread_at (w : FVec Ideal S32x128 .f32) (r : Fin 128) (q : Fin 512) :
    spread w (ix2 r q) = eye4 (ix2 (node r) (grp q)) * w (ix2 (unit r) (col q)) := by
  pointwise [spread]
  rfl

theorem recW_at (w : FVec Ideal S128x32 .f32) (k : Fin 32) (n : Fin 128) : recW w (ix2 k n) = (half * w (ix2 n k)) * sc n := by
  rw [recW, halfS_at]
  pointwise
  rw [scArr_at]
theorem tileM_at (w : FVec Ideal S128x512 .f32) (r : Fin 128) (Q : Fin 6144) :
    tileM w (ix2 r Q) = w (ix2 r ⟨Q % 512, by omega⟩) := by
  pointwise [tileM]
theorem timeV_at (a : FVec Ideal S1x16 .f32) (w : FVec Ideal S128x16 .f32) (z : Fin 1) (n : Fin 128) :
    timeV a w (ix2 z n) = (∑ p : Fin 16, a (ix2 0 p) * w (ix2 n p)) * sc n := by
  pointwise [timeV]
  rw [scArr_at, Fin.fin_one_eq_zero z]
theorem timeW_at (v : FVec Ideal S1x128 .f32) (s : Fin 48) (Q : Fin 6144) :
    timeW v (ix2 s Q) = eye12 (ix2 ⟨s % 12, by omega⟩ ⟨Q / 512, by omega⟩) * eye4 (ix2 ⟨s / 12, by omega⟩ (grp ⟨Q % 512, by omega⟩))
      * v (ix2 0 (col ⟨Q % 512, by omega⟩)) := by
  pointwise [timeW]
  refine congrArg₂ (· * ·) (congrArg₂ (· * ·) rfl (congrArg (fun z => eye4 (ix2 _ z)) (Fin.ext ?_)))
    (congrArg (fun z => v (ix2 0 z)) (Fin.ext ?_))
  · show (Q : ℕ) / 32 % 4 = (Q : ℕ) % 512 / 32 % 4
    omega
  · show (Q : ℕ) / 128 % 4 * 32 + (Q : ℕ) % 32 = (Q : ℕ) % 512 / 128 * 32 + (Q : ℕ) % 512 % 32
    omega
theorem padW_at (w : FVec Ideal S48x6144 .f32) (s : Fin 64) (Q : Fin 6144) :
    padW w (ix2 s Q) = if h : 4 ≤ (s : ℕ) % 16 then w (ix2 ⟨s / 16 * 12 + (s % 16 - 4), by omega⟩ Q) else 0 := by
  pointwise [padW]
  by_cases h : 4 ≤ (s : ℕ) % 16
  · rw [dif_pos h, dif_pos (by omega)]
  · rw [dif_neg h, dif_neg (by omega)]
    show (((0 : ℤ) : ℝ) : EReal) = 0
    norm_num

theorem bias0_at (t : FVec Ideal S16 .f32) (w : FVec Ideal S128x16 .f32) (a b : FVec Ideal S128 .f32) (z : Fin 1) (n : Fin 128) :
    bias0 t w a b (ix2 z n) = (((∑ p : Fin 16, t (ix1 p) * w (ix2 n p)) + a (ix1 n)) + b (ix1 n)) * sc n := by
  pointwise [bias0]
  rw [scArr_at]
theorem bias1_at (a b : FVec Ideal S128 .f32) (z : Fin 1) (n : Fin 128) :
    bias1 a b (ix2 z n) = (a (ix1 n) + b (ix1 n)) * sc n := by
  pointwise [bias1]
  rw [scArr_at]
theorem spreadB_at (k : FVec Ideal S1x128 .f32) (z : Fin 1) (q : Fin 512) : spreadB k (ix2 z q) = k (ix2 0 (col q)) := by
  pointwise [spreadB]
  rfl
theorem tileB_at (k : FVec Ideal S1x512 .f32) (z : Fin 1) (Q : Fin 6144) :
    tileB k (ix2 z Q) = k (ix2 0 ⟨Q % 512, by omega⟩) := by
  pointwise [tileB]
theorem wideW_at (w r : FVec Ideal S128x32 .f32) (k : Fin 64) (n : Fin 128) :
    wideW w r (ix2 k n) = (half * (if h : (k : ℕ) < 32 then w (ix2 n ⟨k, h⟩) else r (ix2 n ⟨k - 32, by omega⟩))) * sc n := by
  rw [wideW, halfS_at]
  pointwise [catI]
  rw [scArr_at]
theorem head1_at (w : FVec Ideal S32x16 .f32) (r : Fin 128) (u : Fin 64) :
    head1 w (ix2 r u) = eye4 (ix2 (node r) ⟨u / 16, by omega⟩) * (half * w (ix2 (unit r) ⟨u % 16, by omega⟩)) := by
  rw [head1, halfS_at]
  pointwise
  rfl
theorem headB_at (b : FVec Ideal S16 .f32) (z : Fin 1) (u : Fin 64) : headB b (ix2 z u) = b (ix1 ⟨u % 16, by omega⟩) := by
  pointwise [headB]
theorem head2_at (w : FVec Ideal S16x1 .f32) (u : Fin 64) (g : Fin 4) :
    head2 w (ix2 u g) = eye4 (ix2 ⟨u / 16, by omega⟩ g) * w (ix2 ⟨u % 16, by omega⟩ 0) := by
  pointwise [head2]

theorem top_at (w r : FVec Ideal S128x32 .f32) (k : Fin 32) (n : Fin 128) :
    extractStridedSlice S32x128 ![0, 0] (wideW w r) slices_S64x128_S32x128_0_0 (ix2 k n) = (half * w (ix2 n k)) * sc n := by
  pointwise
  rw [wideW_at, dif_pos k.isLt]
theorem bottom_at (w r : FVec Ideal S128x32 .f32) (k : Fin 32) (n : Fin 128) :
    extractStridedSlice S32x128 ![32, 0] (wideW w r) slices_S64x128_S32x128_32_0 (ix2 k n) = (half * r (ix2 n k)) * sc n := by
  pointwise
  rw [wideW_at, dif_neg (by show ¬ 32 + (k : ℕ) < 32; omega)]
  refine congrArg (fun z => (half * r (ix2 n z)) * sc n) (Fin.ext ?_)
  show 32 + (k : ℕ) - 32 = k
  omega

/-- The second layer's weights: the rows of its input, -/
theorem weights1_in (w r : FVec Ideal S128x32 .f32) (k : Fin 128) (q : Fin 512) :
    weights1 w r (ix2 ⟨k, by omega⟩ q) = (if node k = grp q then 1 else 0) * ((half * w (ix2 (col q) (unit k))) * sc (col q)) := by
  pointwise [weights1, catB]
  rw [spread_at, top_at, eye4_at]

/-- and of its state. -/
theorem weights1_state (w r : FVec Ideal S128x32 .f32) (k : Fin 128) (q : Fin 512) :
    weights1 w r (ix2 ⟨128 + k, by omega⟩ q) = (if node k = grp q then 1 else 0) * ((half * r (ix2 (col q) (unit k))) * sc (col q)) := by
  pointwise [weights1, catB]
  rw [spread_at, bottom_at, eye4_at]

section First

variable (a : FVec Ideal S1x16 .f32) (t : FVec Ideal S16 .f32) (w : FVec Ideal S128x16 .f32) (r : FVec Ideal S128x32 .f32)
  (b b' : FVec Ideal S128 .f32)

/-- The first layer's weights: the rows of its state, -/
theorem weights0_state (k : Fin 128) (Q : Fin 6144) :
    weights0 a t w r b b' (ix2 ⟨k, by omega⟩ Q) = (if node k = grp ⟨Q % 512, by omega⟩ then 1 else 0)
      * ((half * r (ix2 (col ⟨Q % 512, by omega⟩) (unit k))) * sc (col ⟨Q % 512, by omega⟩)) := by
  pointwise [weights0, catW, catK]
  rw [tileM_at, spread_at, recW_at, eye4_at]

/-- of the time series, -/
theorem weights0_time (e : Fin 64) (Q : Fin 6144) :
    weights0 a t w r b b' (ix2 ⟨128 + e, by omega⟩ Q)
      = if 4 ≤ (e : ℕ) % 16 then
          (if (e : ℕ) % 16 - 4 = Q / 512 then 1 else 0) * (if (e : ℕ) / 16 = (grp ⟨Q % 512, by omega⟩ : ℕ) then 1 else 0)
            * ((∑ p : Fin 16, a (ix2 0 p) * w (ix2 (col ⟨Q % 512, by omega⟩) p)) * sc (col ⟨Q % 512, by omega⟩))
        else 0 := by
  pointwise [weights0, catW, catK]
  rw [padW_at]
  by_cases h : 4 ≤ (e : ℕ) % 16
  · rw [dif_pos h, if_pos h, timeW_at, timeV_at, eye12_at, eye4_at]
    simp only [Fin.ext_iff]
    have e1 : ((e : ℕ) / 16 * 12 + ((e : ℕ) % 16 - 4)) % 12 = (e : ℕ) % 16 - 4 := by omega
    have e2 : ((e : ℕ) / 16 * 12 + ((e : ℕ) % 16 - 4)) / 12 = (e : ℕ) / 16 := by omega
    rw [e1, e2]
  · rw [dif_neg h, if_neg h]

/-- and of the constants. -/
theorem weights0_ones (f : Fin 16) (Q : Fin 6144) :
    weights0 a t w r b b' (ix2 ⟨192 + f, by omega⟩ Q)
      = if (f : ℕ) = 0 then (((∑ p : Fin 16, t (ix1 p) * w (ix2 (col ⟨Q % 512, by omega⟩) p)) + b (ix1 (col ⟨Q % 512, by omega⟩)))
          + b' (ix1 (col ⟨Q % 512, by omega⟩))) * sc (col ⟨Q % 512, by omega⟩) else 0 := by
  pointwise [weights0, catW, catK]
  rw [dif_neg (by omega), dif_neg (by omega)]
  by_cases h : (f : ℕ) = 0
  · rw [dif_pos (by omega), if_pos h, tileB_at, spreadB_at, bias0_at]
  · rw [dif_neg (by omega), if_neg h]

end First

end Cert.KernelIdeal.Proof

end
-- ==== Proof.Steps.lean ====
/-
  One time step of the body, over any scratch contents that hold the rows' states.

  The body keeps the rows in two halves of 640 and the states in two scratch buffers, each written piece by piece. The
  lemmas here say what the contents of the scratch buffers and the cell states are after a step, when before it they are
  those of the rows' states.
-/
module

public import proofs.«01_k».proof.Proof.Row
public import Idealize.ShloMosaic.Lib.Pipeline.FrameBody
public import Idealize.ShloMosaic.Lib.WritesUnit

@[expose] public section

set_option maxRecDepth 16384

noncomputable section

namespace Cert.KernelIdeal.Proof

open Cert.KernelIdeal Cert.KernelIdeal.Gen

open Idealize.ShloMosaic Idealize.ShloMosaic.TcCoe Idealize.SL.Sem

/-! ### A piece of a list of writes, read at an index -/

/-- Under the last write. -/
theorem canon_at {s : Shape} {e : EltTy} (ρ : Rect s) (w : ρ.shape.Idx → Elt Ideal e) (L : List (View.Piece (Elt Ideal) s e))
    (x : ρ.shape.Idx) (y : s.Idx) (hy : ρ.emb x = y) : View.canon (⟨ρ, w⟩ :: L) y = w x := by
  subst hy
  exact View.canon_cons_emb ρ w L x

section Put

variable {N M : ℕ} {e : EltTy} (o p : ℕ)
  (inb : ∀ a, (![o, p] : Fin 2 → ℕ) a + (![640, M] : Fin 2 → ℕ) a ≤ (⟨2, ![1280, N]⟩ : Shape).size a)
  (w : (⟨2, ![640, M]⟩ : Shape).Idx → Elt Ideal e) (L : List (View.Piece (Elt Ideal) (⟨2, ![1280, N]⟩ : Shape) e))

theorem canon_put_in (R : Fin 1280) (k : Fin N) (r : Fin 640) (n : Fin M) (hR : (R : ℕ) = o + r) (hk : (k : ℕ) = p + n) :
    View.canon (⟨Rect.unit (s := ⟨2, ![1280, N]⟩) ![o, p] ![640, M] inb, w⟩ :: L) (ix2 R k) = w (ix2 r n) := by
  have hy : (Rect.unit (s := ⟨2, ![1280, N]⟩) ![o, p] ![640, M] inb).emb (ix2 r n) = ix2 R k := by
    funext a
    apply Fin.ext
    refine Fin.cases ?_ (fun a => ?_) a
    · show o + 1 * (r : ℕ) = R
      omega
    · obtain rfl : a = 0 := Subsingleton.elim _ _
      show p + 1 * (n : ℕ) = k
      omega
  exact canon_at _ w L _ _ hy

theorem canon_put_out (R : Fin 1280) (k : Fin N) (h : (R : ℕ) < o ∨ o + 640 ≤ R ∨ (k : ℕ) < p ∨ p + M ≤ k) :
    View.canon (⟨Rect.unit (s := ⟨2, ![1280, N]⟩) ![o, p] ![640, M] inb, w⟩ :: L) (ix2 R k) = View.canon L (ix2 R k) := by
  refine View.canon_cons_of_not_mem _ L fun hm => ?_
  have hm : ix2 R k ∈ (Rect.unit (s := ⟨2, ![1280, N]⟩) ![o, p] ![640, M] inb).set := hm
  have hm' := Rect.mem_set_unit.mp hm
  have h0 := hm' 0
  have h1 := hm' 1
  change o ≤ (R : ℕ) ∧ (R : ℕ) < o + 640 at h0
  change p ≤ (k : ℕ) ∧ (k : ℕ) < p + M at h1
  omega

end Put

/-- A read of a box of the writes, at an index. -/
theorem readCov_box {N M : ℕ} {e : EltTy} {κ : Kind} {sp : Space} (v : View sig κ sp (⟨2, ![1280, N]⟩ : Shape) e)
    (L : List (View.Piece (Elt Ideal) (⟨2, ![1280, N]⟩ : Shape) e)) (o p : ℕ)
    (inb : ∀ a, (![o, p] : Fin 2 → ℕ) a + (![640, M] : Fin 2 → ℕ) a ≤ (⟨2, ![1280, N]⟩ : Shape).size a)
    (r : Fin 640) (n : Fin M) (R : Fin 1280) (k : Fin N) (hR : (R : ℕ) = o + r) (hk : (k : ℕ) = p + n) :
    v.readCov L (Rect.unit (s := ⟨2, ![1280, N]⟩) ![o, p] ![640, M] inb).toLoadRect (ix2 r n) = View.canon L (ix2 R k) := by
  rw [View.readCov_eq_canon']
  refine congrArg (View.canon L) (funext fun a => Fin.ext ?_)
  refine Fin.cases ?_ (fun a => ?_) a
  · show o + 1 * (r : ℕ) = R
    omega
  · obtain rfl : a = 0 := Subsingleton.elim _ _
    show p + 1 * (n : ℕ) = k
    omega

/-! ### What the scratch buffers hold -/

/-- Row `r` of the lower half, and of the upper one. -/
def low (r : Fin 640) : Fin 1280 := ⟨r, by omega⟩
def high (r : Fin 640) : Fin 1280 := ⟨640 + r, by omega⟩

theorem low_or_high (R : Fin 1280) : (∃ r, R = low r) ∨ ∃ r, R = high r := by
  by_cases h : (R : ℕ) < 640
  · exact .inl ⟨⟨R, h⟩, rfl⟩
  · exact .inr ⟨⟨R - 640, by omega⟩, Fin.ext (by show (R : ℕ) = 640 + (R - 640); omega)⟩

/-- The array is the rows `ι r` of `H`. -/
def IsHalf {φ : FTy} (ι : Fin 640 → Fin 1280) (a : FVec Ideal S640x128 φ) (H : Fin 1280 → Fin 128 → EReal) : Prop :=
  ∀ r n, a (ix2 r n) = H (ι r) n

/-- The first scratch buffer: the first layer's state, then the rows' constants. -/
def InvA (L : List (View.Piece (Elt Ideal) S1280x208 .bf16)) (H : Fin 1280 → Fin 128 → EReal) (xs : Fin 1280 → Fin 208 → EReal) : Prop :=
  ∀ (R : Fin 1280) (k : Fin 208), View.canon L (ix2 R k) = if hk : (k : ℕ) < 128 then H R ⟨k, hk⟩ else xs R k

/-- The second scratch buffer: both layers' states. -/
def InvB (L : List (View.Piece (Elt Ideal) S1280x256 .bf16)) (H H' : Fin 1280 → Fin 128 → EReal) : Prop :=
  ∀ (R : Fin 1280) (k : Fin 256), View.canon L (ix2 R k) = if hk : (k : ℕ) < 128 then H R ⟨k, hk⟩ else H' R ⟨k - 128, by omega⟩

section

variable {H H' G : Fin 1280 → Fin 128 → EReal} {xs : Fin 1280 → Fin 208 → EReal} {a b : FVec Ideal S640x128 .bf16}

theorem putA {L : List (View.Piece (Elt Ideal) S1280x208 .bf16)} (h : InvA L H xs) (ha : IsHalf low a G) (hb : IsHalf high b G) :
    InvA (⟨Rect.unit (s := S1280x208) ![640, 0] S640x128.size inb_S1280x208_S640x128_640_0, b⟩ ::
      ⟨Rect.unit (s := S1280x208) ![0, 0] S640x128.size inb_S1280x208_S640x128_0_0, a⟩ :: L) G xs := by
  intro R k
  by_cases hk : (k : ℕ) < 128
  · rw [dif_pos hk]
    rcases low_or_high R with ⟨r, rfl⟩ | ⟨r, rfl⟩
    · refine (canon_put_out (N := 208) (M := 128) (e := .bf16) 640 0 _ b _ _ k (.inl ?_)).trans ((canon_put_in (N := 208) (M := 128) (e := .bf16) 0 0 _ a _ _ k r ⟨k, hk⟩ ?_ ?_).trans (ha r _))
      · exact r.2
      · exact (Nat.zero_add _).symm
      · exact (Nat.zero_add _).symm
    · refine (canon_put_in (N := 208) (M := 128) (e := .bf16) 640 0 _ b _ _ k r ⟨k, hk⟩ ?_ ?_).trans (hb r _)
      · rfl
      · exact (Nat.zero_add _).symm
  · rw [dif_neg hk]
    refine (canon_put_out (N := 208) (M := 128) (e := .bf16) 640 0 _ b _ R k ?_).trans ((canon_put_out (N := 208) (M := 128) (e := .bf16) 0 0 _ a _ R k ?_).trans ((h R k).trans (dif_neg hk))) <;>
      omega

theorem putB {L : List (View.Piece (Elt Ideal) S1280x256 .bf16)} (h : InvB L H H') (ha : IsHalf low a G) (hb : IsHalf high b G) :
    InvB (⟨Rect.unit (s := S1280x256) ![640, 0] S640x128.size inb_S1280x256_S640x128_640_0, b⟩ ::
      ⟨Rect.unit (s := S1280x256) ![0, 0] S640x128.size inb_S1280x256_S640x128_0_0, a⟩ :: L) G H' := by
  intro R k
  by_cases hk : (k : ℕ) < 128
  · rw [dif_pos hk]
    rcases low_or_high R with ⟨r, rfl⟩ | ⟨r, rfl⟩
    · refine (canon_put_out (N := 256) (M := 128) (e := .bf16) 640 0 _ b _ _ k (.inl ?_)).trans ((canon_put_in (N := 256) (M := 128) (e := .bf16) 0 0 _ a _ _ k r ⟨k, hk⟩ ?_ ?_).trans (ha r _))
      · exact r.2
      · exact (Nat.zero_add _).symm
      · exact (Nat.zero_add _).symm
    · refine (canon_put_in (N := 256) (M := 128) (e := .bf16) 640 0 _ b _ _ k r ⟨k, hk⟩ ?_ ?_).trans (hb r _)
      · rfl
      · exact (Nat.zero_add _).symm
  · rw [dif_neg hk]
    refine (canon_put_out (N := 256) (M := 128) (e := .bf16) 640 0 _ b _ R k ?_).trans ((canon_put_out (N := 256) (M := 128) (e := .bf16) 0 0 _ a _ R k ?_).trans ((h R k).trans (dif_neg hk))) <;>
      omega

theorem putB' {L : List (View.Piece (Elt Ideal) S1280x256 .bf16)} (h : InvB L H H') (ha : IsHalf low a G) (hb : IsHalf high b G) :
    InvB (⟨Rect.unit (s := S1280x256) ![640, 128] S640x128.size inb_S1280x256_S640x128_640_128, b⟩ ::
      ⟨Rect.unit (s := S1280x256) ![0, 128] S640x128.size inb_S1280x256_S640x128_0_128, a⟩ :: L) H G := by
  intro R k
  by_cases hk : (k : ℕ) < 128
  · rw [dif_pos hk]
    refine (canon_put_out (N := 256) (M := 128) (e := .bf16) 640 128 _ b _ R k ?_).trans ((canon_put_out (N := 256) (M := 128) (e := .bf16) 0 128 _ a _ R k ?_).trans ((h R k).trans (dif_pos hk))) <;>
      omega
  · rw [dif_neg hk]
    have hn : (k : ℕ) - 128 < 128 := by omega
    rcases low_or_high R with ⟨r, rfl⟩ | ⟨r, rfl⟩
    · refine (canon_put_out (N := 256) (M := 128) (e := .bf16) 640 128 _ b _ _ k (.inl ?_)).trans ((canon_put_in (N := 256) (M := 128) (e := .bf16) 0 128 _ a _ _ k r ⟨k - 128, hn⟩ ?_ ?_).trans (ha r _))
      · exact r.2
      · exact (Nat.zero_add _).symm
      · show (k : ℕ) = 128 + (k - 128)
        omega
    · refine (canon_put_in (N := 256) (M := 128) (e := .bf16) 640 128 _ b _ _ k r ⟨k - 128, hn⟩ ?_ ?_).trans (hb r _)
      · rfl
      · show (k : ℕ) = 128 + (k - 128)
        omega

end

/-! ### One layer's step -/

/-- The state of a row. -/
structure RowState where
  h : Fin 128 → EReal
  c : Fin 128 → EReal
  h' : Fin 128 → EReal
  c' : Fin 128 → EReal

/-- The first layer's step alone, -/
def RowState.nextA (xs : Fin 208 → EReal) (w : Fin 208 → Fin 512 → EReal) (s : RowState) : RowState :=
  { s with
    c := cellC (gateA s.h xs w) s.c
    h := cellH (gateA s.h xs w) (cellC (gateA s.h xs w) s.c) }

/-- the second layer's alone, -/
def RowState.nextB (w : Fin 256 → Fin 512 → EReal) (b : Fin 512 → EReal) (s : RowState) : RowState :=
  { s with
    c' := cellC (gateB s.h s.h' w b) s.c'
    h' := cellH (gateB s.h s.h' w b) (cellC (gateB s.h s.h' w b) s.c') }

/-- and the row's state after `j` time steps, from zero. -/
def rowAt (xs : Fin 208 → EReal) (W : ℕ → Fin 208 → Fin 512 → EReal) (w : Fin 256 → Fin 512 → EReal) (b : Fin 512 → EReal) :
    ℕ → RowState
  | 0 => ⟨fun _ => 0, fun _ => 0, fun _ => 0, fun _ => 0⟩
  | j + 1 => ((rowAt xs W w b j).nextA xs (W j)).nextB w b

section Layer

variable {κ : Kind} {sp : Space}

/-- The cell of a half from its gates. -/
theorem half_cell {ι : Fin 640 → Fin 1280} {c : FVec Ideal S640x128 .f32} {g : FVec Ideal S640x512 .f32}
    {C : Fin 1280 → Fin 128 → EReal} {A : Fin 1280 → Fin 512 → EReal} (hc : IsHalf ι c C) (hg : ∀ r q, g (ix2 r q) = A (ι r) q) :
    IsHalf ι (k0_pay32 (F := Ideal) c g) (fun R => cellC (A R) (C R))
      ∧ IsHalf ι (k0_pay33 (F := Ideal) c g) (fun R => cellH (A R) (cellC (A R) (C R))) := by
  have hcc : IsHalf ι (k0_pay32 (F := Ideal) c g) (fun R => cellC (A R) (C R)) := fun r n => by
    rw [pay32_row]
    exact congrArg₂ (fun a c => cellC a c n) (funext fun q => hg r q) (funext fun n => hc r n)
  refine ⟨hcc, fun r n => ?_⟩
  rw [pay33_row]
  exact congrArg₂ (fun a c => cellH a c n) (funext fun q => hg r q) (funext fun n => hcc r n)

theorem gates_A {L : List (View.Piece (Elt Ideal) S1280x208 .bf16)} {H : Fin 1280 → Fin 128 → EReal} {xs : Fin 1280 → Fin 208 → EReal}
    (hA : InvA L H xs) (w : FVec Ideal S208x512 .bf16) {W : Fin 208 → Fin 512 → EReal} (hw : ∀ k q, w (ix2 k q) = W k q)
    (ι : Fin 640 → Fin 1280) (v : FVec Ideal S640x208 .bf16) (hv : ∀ r k, v (ix2 r k) = View.canon L (ix2 (ι r) k)) (r : Fin 640) (q : Fin 512) :
    k0_pay25 (F := Ideal) w v (ix2 r q) = gateA (H (ι r)) (xs (ι r)) W q := by
  rw [pay25_row]
  refine congrArg Ideal.tanh (Finset.sum_congr rfl fun k _ => ?_)
  rw [hv, hA, hw]

theorem gates_B {L : List (View.Piece (Elt Ideal) S1280x256 .bf16)} {H H' : Fin 1280 → Fin 128 → EReal}
    (hB : InvB L H H') (w : FVec Ideal S256x512 .bf16) {W : Fin 256 → Fin 512 → EReal} (hw : ∀ k q, w (ix2 k q) = W k q)
    (b : FVec Ideal S1x512 .f32) {B : Fin 512 → EReal} (hb : ∀ q, b (ix2 0 q) = B q)
    (ι : Fin 640 → Fin 1280) (v : FVec Ideal S640x256 .bf16) (hv : ∀ r k, v (ix2 r k) = View.canon L (ix2 (ι r) k)) (r : Fin 640) (q : Fin 512) :
    k0_pay36 (F := Ideal) b v w (ix2 r q) = gateB (H (ι r)) (H' (ι r)) W B q := by
  rw [pay36_row]
  refine congrArg Ideal.tanh (congrArg₂ (· + ·) (Finset.sum_congr rfl fun k _ => ?_) (hb q))
  rw [hv, hB, hw]

theorem read_low_A (v : View sig κ sp S1280x208 .bf16) (L : List (View.Piece (Elt Ideal) S1280x208 .bf16)) (r : Fin 640) (k : Fin 208) :
    v.readCov L (Rect.unit (s := S1280x208) ![0, 0] S640x208.size inb_S1280x208_S640x208_0_0).toLoadRect (ix2 r k) = View.canon L (ix2 (low r) k) :=
  readCov_box v L 0 0 _ r k (low r) k (Nat.zero_add _).symm (Nat.zero_add _).symm

theorem read_high_A (v : View sig κ sp S1280x208 .bf16) (L : List (View.Piece (Elt Ideal) S1280x208 .bf16)) (r : Fin 640) (k : Fin 208) :
    v.readCov L (Rect.unit (s := S1280x208) ![640, 0] S640x208.size inb_S1280x208_S640x208_640_0).toLoadRect (ix2 r k) = View.canon L (ix2 (high r) k) :=
  readCov_box v L 640 0 _ r k (high r) k rfl (Nat.zero_add _).symm

theorem read_low_B (v : View sig κ sp S1280x256 .bf16) (L : List (View.Piece (Elt Ideal) S1280x256 .bf16)) (r : Fin 640) (k : Fin 256) :
    v.readCov L (Rect.unit (s := S1280x256) ![0, 0] S640x256.size inb_S1280x256_S640x256_0_0).toLoadRect (ix2 r k) = View.canon L (ix2 (low r) k) :=
  readCov_box v L 0 0 _ r k (low r) k (Nat.zero_add _).symm (Nat.zero_add _).symm

theorem read_high_B (v : View sig κ sp S1280x256 .bf16) (L : List (View.Piece (Elt Ideal) S1280x256 .bf16)) (r : Fin 640) (k : Fin 256) :
    v.readCov L (Rect.unit (s := S1280x256) ![640, 0] S640x256.size inb_S1280x256_S640x256_640_0).toLoadRect (ix2 r k) = View.canon L (ix2 (high r) k) :=
  readCov_box v L 640 0 _ r k (high r) k rfl (Nat.zero_add _).symm

/-- A shape cast to the same shape is the array. -/
theorem half_cast {φ : FTy} {ι : Fin 640 → Fin 1280} {a : FVec Ideal S640x128 φ} {H : Fin 1280 → Fin 128 → EReal} (h : IsHalf ι a H) :
    IsHalf ι (shapeCast S640x128 a shapeCasts_S640x128_S640x128) H := fun r n => by
  rw [← h r n]
  pointwise

/-- Everything the body carries between two steps, as of the rows' states `S`. -/
structure Holds (S : Fin 1280 → RowState) (xs : Fin 1280 → Fin 208 → EReal) (La : List (View.Piece (Elt Ideal) S1280x208 .bf16))
    (Lb : List (View.Piece (Elt Ideal) S1280x256 .bf16)) (ca cb ca' cb' : FVec Ideal S640x128 .f32) : Prop where
  a : InvA La (fun R => (S R).h) xs
  b : InvB Lb (fun R => (S R).h) (fun R => (S R).h')
  lo : IsHalf low ca fun R => (S R).c
  hi : IsHalf high cb fun R => (S R).c
  lo' : IsHalf low ca' fun R => (S R).c'
  hi' : IsHalf high cb' fun R => (S R).c'

variable (va : View sig κ sp S1280x208 .bf16) (vb : View sig κ sp S1280x256 .bf16)

/-- The first layer's step. -/
theorem step_A {S : Fin 1280 → RowState} {xs : Fin 1280 → Fin 208 → EReal} {La : List (View.Piece (Elt Ideal) S1280x208 .bf16)}
    {Lb : List (View.Piece (Elt Ideal) S1280x256 .bf16)} {ca cb ca' cb' : FVec Ideal S640x128 .f32} (h : Holds S xs La Lb ca cb ca' cb')
    (w : FVec Ideal S208x512 .bf16) {W : Fin 208 → Fin 512 → EReal} (hw : ∀ k q, w (ix2 k q) = W k q) :
    let g := k0_pay25 (F := Ideal) w (va.readCov La (Rect.unit (s := S1280x208) ![0, 0] S640x208.size inb_S1280x208_S640x208_0_0).toLoadRect)
    let g' := k0_pay25 (F := Ideal) w (va.readCov La (Rect.unit (s := S1280x208) ![640, 0] S640x208.size inb_S1280x208_S640x208_640_0).toLoadRect)
    Holds (fun R => (S R).nextA (xs R) W) xs
      (⟨Rect.unit (s := S1280x208) ![640, 0] S640x128.size inb_S1280x208_S640x128_640_0, k0_pay34 (F := Ideal) cb g'⟩ ::
        ⟨Rect.unit (s := S1280x208) ![0, 0] S640x128.size inb_S1280x208_S640x128_0_0, k0_pay34 (F := Ideal) ca g⟩ :: La)
      (⟨Rect.unit (s := S1280x256) ![640, 0] S640x128.size inb_S1280x256_S640x128_640_0, k0_pay34 (F := Ideal) cb g'⟩ ::
        ⟨Rect.unit (s := S1280x256) ![0, 0] S640x128.size inb_S1280x256_S640x128_0_0, k0_pay34 (F := Ideal) ca g⟩ :: Lb)
      (k0_pay32 (F := Ideal) ca g) (k0_pay32 (F := Ideal) cb g') ca' cb' := by
  intro g g'
  have hl := half_cell (g := g) (A := fun R => gateA (S R).h (xs R) W) h.lo (gates_A h.a w hw low _ (read_low_A va La))
  have hh := half_cell (g := g') (A := fun R => gateA (S R).h (xs R) W) h.hi (gates_A h.a w hw high _ (read_high_A va La))
  exact ⟨putA h.a (half_cast hl.2) (half_cast hh.2), putB h.b (half_cast hl.2) (half_cast hh.2), hl.1, hh.1, h.lo', h.hi'⟩

/-- The second layer's cells, -/
theorem cells_B {S : Fin 1280 → RowState} {xs : Fin 1280 → Fin 208 → EReal} {La : List (View.Piece (Elt Ideal) S1280x208 .bf16)}
    {Lb : List (View.Piece (Elt Ideal) S1280x256 .bf16)} {ca cb ca' cb' : FVec Ideal S640x128 .f32} (h : Holds S xs La Lb ca cb ca' cb')
    (w : FVec Ideal S256x512 .bf16) {W : Fin 256 → Fin 512 → EReal} (hw : ∀ k q, w (ix2 k q) = W k q)
    (b : FVec Ideal S1x512 .f32) {B : Fin 512 → EReal} (hb : ∀ q, b (ix2 0 q) = B q) :
    let g := k0_pay36 (F := Ideal) b (vb.readCov Lb (Rect.unit (s := S1280x256) ![0, 0] S640x256.size inb_S1280x256_S640x256_0_0).toLoadRect) w
    let g' := k0_pay36 (F := Ideal) b (vb.readCov Lb (Rect.unit (s := S1280x256) ![640, 0] S640x256.size inb_S1280x256_S640x256_640_0).toLoadRect) w
    (IsHalf low (k0_pay32 (F := Ideal) ca' g) (fun R => ((S R).nextB W B).c')
        ∧ IsHalf low (k0_pay33 (F := Ideal) ca' g) (fun R => ((S R).nextB W B).h'))
      ∧ IsHalf high (k0_pay32 (F := Ideal) cb' g') (fun R => ((S R).nextB W B).c')
        ∧ IsHalf high (k0_pay33 (F := Ideal) cb' g') (fun R => ((S R).nextB W B).h') := by
  intro g g'
  exact ⟨half_cell (g := g) (A := fun R => gateB (S R).h (S R).h' W B) h.lo' (gates_B h.b w hw b hb low _ (read_low_B vb Lb)), half_cell (g := g') (A := fun R => gateB (S R).h (S R).h' W B) h.hi' (gates_B h.b w hw b hb high _ (read_high_B vb Lb))⟩

/-- and its step. -/
theorem step_B {S : Fin 1280 → RowState} {xs : Fin 1280 → Fin 208 → EReal} {La : List (View.Piece (Elt Ideal) S1280x208 .bf16)}
    {Lb : List (View.Piece (Elt Ideal) S1280x256 .bf16)} {ca cb ca' cb' : FVec Ideal S640x128 .f32} (h : Holds S xs La Lb ca cb ca' cb')
    (w : FVec Ideal S256x512 .bf16) {W : Fin 256 → Fin 512 → EReal} (hw : ∀ k q, w (ix2 k q) = W k q)
    (b : FVec Ideal S1x512 .f32) {B : Fin 512 → EReal} (hb : ∀ q, b (ix2 0 q) = B q) :
    let g := k0_pay36 (F := Ideal) b (vb.readCov Lb (Rect.unit (s := S1280x256) ![0, 0] S640x256.size inb_S1280x256_S640x256_0_0).toLoadRect) w
    let g' := k0_pay36 (F := Ideal) b (vb.readCov Lb (Rect.unit (s := S1280x256) ![640, 0] S640x256.size inb_S1280x256_S640x256_640_0).toLoadRect) w
    Holds (fun R => (S R).nextB W B) xs La
      (⟨Rect.unit (s := S1280x256) ![640, 128] S640x128.size inb_S1280x256_S640x128_640_128, k0_pay34 (F := Ideal) cb' g'⟩ ::
        ⟨Rect.unit (s := S1280x256) ![0, 128] S640x128.size inb_S1280x256_S640x128_0_128, k0_pay34 (F := Ideal) ca' g⟩ :: Lb)
      ca cb (k0_pay32 (F := Ideal) ca' g) (k0_pay32 (F := Ideal) cb' g') := by
  intro g g'
  have hc := cells_B vb h w hw b hb
  exact ⟨h.a, putB' h.b (half_cast hc.1.2) (half_cast hc.2.2), h.lo, h.hi, hc.1.1, hc.2.1⟩

/-! ### The first step, from zero states -/

/-- The first layer's gates of a zero state: only the rows' constants contribute. -/
theorem gates_A0 {L : List (View.Piece (Elt Ideal) S1280x208 .bf16)} {xs : Fin 1280 → Fin 208 → EReal}
    (hA : InvA L (fun _ _ => 0) xs) (w : FVec Ideal S208x512 .bf16) {W : Fin 208 → Fin 512 → EReal} (hw : ∀ k q, w (ix2 k q) = W k q)
    (ι : Fin 640 → Fin 1280) (v : FVec Ideal S640x80 .bf16)
    (hv : ∀ (r : Fin 640) (k : Fin 80), v (ix2 r k) = View.canon L (ix2 (ι r) (⟨128 + k, by omega⟩ : Fin 208))) (r : Fin 640) (q : Fin 512) :
    k0_pay7 (F := Ideal) w v (ix2 r q) = gateA (fun _ => 0) (xs (ι r)) W q := by
  rw [pay7_row]
  refine congrArg Ideal.tanh (Eq.symm ?_)
  refine (Fin.sum_univ_add (a := 128) (b := 80) _).trans ?_
  refine (congrArg₂ (· + ·) (Finset.sum_eq_zero fun k _ => ?_) (Finset.sum_congr rfl fun k _ => ?_)).trans (zero_add _)
  · have hk : ((Fin.castAdd 80 k : Fin 208) : ℕ) < 128 := k.2
    rw [dif_pos hk, zero_mul]
  · have hk : ¬ ((Fin.natAdd 128 k : Fin 208) : ℕ) < 128 := by
      show ¬ 128 + (k : ℕ) < 128
      omega
    have e := hA (ι r) (Fin.natAdd 128 k)
    rw [dif_neg hk] at e
    rw [dif_neg hk, hv, hw]
    exact congrArg (· * W (Fin.natAdd 128 k) q) e.symm

/-- The second layer's gates of a zero state of its own. -/
theorem gates_B0 {L : List (View.Piece (Elt Ideal) S1280x256 .bf16)} {H : Fin 1280 → Fin 128 → EReal}
    (hB : InvB L H (fun _ _ => 0)) (w : FVec Ideal S128x512 .bf16) {W : Fin 256 → Fin 512 → EReal}
    (hw : ∀ (k : Fin 128) q, w (ix2 k q) = W ⟨k, by omega⟩ q)
    (b : FVec Ideal S1x512 .f32) {B : Fin 512 → EReal} (hb : ∀ q, b (ix2 0 q) = B q)
    (ι : Fin 640 → Fin 1280) (v : FVec Ideal S640x128 .bf16)
    (hv : ∀ (r : Fin 640) (k : Fin 128), v (ix2 r k) = View.canon L (ix2 (ι r) (⟨k, by omega⟩ : Fin 256))) (r : Fin 640) (q : Fin 512) :
    k0_pay17 (F := Ideal) b v w (ix2 r q) = gateB (H (ι r)) (fun _ => 0) W B q := by
  rw [pay17_row]
  refine congrArg Ideal.tanh (congrArg₂ (· + ·) (Eq.symm ?_) (hb q))
  refine (Fin.sum_univ_add (a := 128) (b := 128) _).trans ?_
  refine (congrArg₂ (· + ·) (Finset.sum_congr rfl fun k _ => ?_) (Finset.sum_eq_zero fun k _ => ?_)).trans (add_zero _)
  · have hk : ((Fin.castAdd 128 k : Fin 256) : ℕ) < 128 := k.2
    rw [dif_pos hk, hv, hB, hw, dif_pos k.2]
    rfl
  · have hk : ¬ ((Fin.natAdd 128 k : Fin 256) : ℕ) < 128 := by
      show ¬ 128 + (k : ℕ) < 128
      omega
    rw [dif_neg hk, zero_mul]

/-- The cell of a half from its gates and a zero cell state. -/
theorem half_cell0 {ι : Fin 640 → Fin 1280} {g : FVec Ideal S640x512 .f32} {A : Fin 1280 → Fin 512 → EReal}
    (hg : ∀ r q, g (ix2 r q) = A (ι r) q) :
    IsHalf ι (k0_pay13 (F := Ideal) g) (fun R => cellC (A R) fun _ => 0)
      ∧ IsHalf ι (k0_pay14 (F := Ideal) g) (fun R => cellH (A R) (cellC (A R) fun _ => 0)) := by
  have hcc : IsHalf ι (k0_pay13 (F := Ideal) g) (fun R => cellC (A R) fun _ => 0) := fun r n => by
    rw [pay13_row]
    exact congrArg (fun a => cellC a (fun _ => 0) n) (funext fun q => hg r q)
  refine ⟨hcc, fun r n => ?_⟩
  rw [pay14_row]
  exact congrArg₂ (fun a c => cellH a c n) (funext fun q => hg r q) (funext fun n => hcc r n)

/-- The first layer's first step. -/
theorem step_A0 {xs : Fin 1280 → Fin 208 → EReal} {La : List (View.Piece (Elt Ideal) S1280x208 .bf16)}
    {Lb : List (View.Piece (Elt Ideal) S1280x256 .bf16)} (ha : InvA La (fun _ _ => 0) xs) (hb : InvB Lb (fun _ _ => 0) (fun _ _ => 0))
    (w : FVec Ideal S208x512 .bf16) {W : Fin 208 → Fin 512 → EReal} (hw : ∀ k q, w (ix2 k q) = W k q) (z : RowState)
    (hz : z = ⟨fun _ => 0, fun _ => 0, fun _ => 0, fun _ => 0⟩) :
    let g := k0_pay7 (F := Ideal) w (va.readCov La (Rect.unit (s := S1280x208) ![0, 128] S640x80.size inb_S1280x208_S640x80_0_128).toLoadRect)
    let g' := k0_pay7 (F := Ideal) w (va.readCov La (Rect.unit (s := S1280x208) ![640, 128] S640x80.size inb_S1280x208_S640x80_640_128).toLoadRect)
    let p := shapeCast S640x128 (k0_pay14 (F := Ideal) g) shapeCasts_S640x128_S640x128
    let p' := shapeCast S640x128 (k0_pay14 (F := Ideal) g') shapeCasts_S640x128_S640x128
    InvA (⟨Rect.unit (s := S1280x208) ![640, 0] S640x128.size inb_S1280x208_S640x128_640_0, p'⟩ ::
        ⟨Rect.unit (s := S1280x208) ![0, 0] S640x128.size inb_S1280x208_S640x128_0_0, p⟩ :: La)
        (fun R => (z.nextA (xs R) W).h) xs
      ∧ InvB (⟨Rect.unit (s := S1280x256) ![640, 0] S640x128.size inb_S1280x256_S640x128_640_0, p'⟩ ::
        ⟨Rect.unit (s := S1280x256) ![0, 0] S640x128.size inb_S1280x256_S640x128_0_0, p⟩ :: Lb)
        (fun R => (z.nextA (xs R) W).h) (fun _ _ => 0)
      ∧ IsHalf low (k0_pay13 (F := Ideal) g) (fun R => (z.nextA (xs R) W).c)
      ∧ IsHalf high (k0_pay13 (F := Ideal) g') (fun R => (z.nextA (xs R) W).c) := by
  subst hz
  intro g g' p p'
  have hl := half_cell0 (g := g) (A := fun R => gateA (fun _ => 0) (xs R) W) (gates_A0 ha w hw low _ fun r k =>
    readCov_box (N := 208) (M := 80) (e := .bf16) va La 0 128 _ r k (low r) _ (Nat.zero_add _).symm rfl)
  have hh := half_cell0 (g := g') (A := fun R => gateA (fun _ => 0) (xs R) W) (gates_A0 ha w hw high _ fun r k =>
    readCov_box (N := 208) (M := 80) (e := .bf16) va La 640 128 _ r k (high r) _ rfl rfl)
  exact ⟨putA ha (half_cast hl.2) (half_cast hh.2), putB hb (half_cast hl.2) (half_cast hh.2), hl.1, hh.1⟩

/-- The second layer's first step. -/
theorem step_B0 {H : Fin 1280 → Fin 128 → EReal}
    {Lb : List (View.Piece (Elt Ideal) S1280x256 .bf16)} (hB : InvB Lb H (fun _ _ => 0))
    (w : FVec Ideal S128x512 .bf16) {W : Fin 256 → Fin 512 → EReal} (hw : ∀ (k : Fin 128) q, w (ix2 k q) = W ⟨k, by omega⟩ q)
    (b : FVec Ideal S1x512 .f32) {B : Fin 512 → EReal} (hb : ∀ q, b (ix2 0 q) = B q) :
    let g := k0_pay17 (F := Ideal) b (vb.readCov Lb (Rect.unit (s := S1280x256) ![0, 0] S640x128.size inb_S1280x256_S640x128_0_0).toLoadRect) w
    let g' := k0_pay17 (F := Ideal) b (vb.readCov Lb (Rect.unit (s := S1280x256) ![640, 0] S640x128.size inb_S1280x256_S640x128_640_0).toLoadRect) w
    InvB (⟨Rect.unit (s := S1280x256) ![640, 128] S640x128.size inb_S1280x256_S640x128_640_128,
          shapeCast S640x128 (k0_pay14 (F := Ideal) g') shapeCasts_S640x128_S640x128⟩ ::
        ⟨Rect.unit (s := S1280x256) ![0, 128] S640x128.size inb_S1280x256_S640x128_0_128,
          shapeCast S640x128 (k0_pay14 (F := Ideal) g) shapeCasts_S640x128_S640x128⟩ :: Lb)
        H (fun R => cellH (gateB (H R) (fun _ => 0) W B) (cellC (gateB (H R) (fun _ => 0) W B) fun _ => 0))
      ∧ IsHalf low (k0_pay13 (F := Ideal) g) (fun R => cellC (gateB (H R) (fun _ => 0) W B) fun _ => 0)
      ∧ IsHalf high (k0_pay13 (F := Ideal) g') (fun R => cellC (gateB (H R) (fun _ => 0) W B) fun _ => 0) := by
  intro g g'
  have hl := half_cell0 (g := g) (A := fun R => gateB (H R) (fun _ => 0) W B) (gates_B0 hB w hw b hb low _ fun r k =>
    readCov_box (N := 256) (M := 128) (e := .bf16) vb Lb 0 0 _ r k (low r) _ (Nat.zero_add _).symm (Nat.zero_add _).symm)
  have hh := half_cell0 (g := g') (A := fun R => gateB (H R) (fun _ => 0) W B) (gates_B0 hB w hw b hb high _ fun r k =>
    readCov_box (N := 256) (M := 128) (e := .bf16) vb Lb 640 0 _ r k (high r) _ rfl (Nat.zero_add _).symm)
  exact ⟨putB' hB (half_cast hl.2) (half_cast hh.2), hl.1, hh.1⟩

end Layer

end Cert.KernelIdeal.Proof

end
-- ==== Proof.Scan.lean ====
/-
  The body's scratch contents, step by step.

  `bodyRun` names every value the body reads and every list of writes it makes. At the ideal instance, after the `j`-th
  time step these are the rows' states `rowAt … j`, by `step_A` and `step_B` applied to the contents before it.
-/
module

public import proofs.«01_k».proof.Proof.Steps
public import proofs.«01_k».proof.Proof.BodyIdeal
public import Idealize.ShloMosaic.Lib.Pipeline.ValueKit.Tiles

@[expose] public section

set_option maxRecDepth 16384

noncomputable section

namespace Cert.KernelIdeal.Proof

open Cert.KernelIdeal Cert.KernelIdeal.Gen

open Idealize.ShloMosaic Idealize.ShloMosaic.TcCoe Idealize.SL.Sem

variable (c : Dev nD) (x : Memref sig .tc .vmem S1280x512 .f32) (w0 : Memref sig .tc .vmem S208x6144 .bf16)
  (w1 : Memref sig .tc .vmem S256x512 .bf16) (b1 : Memref sig .tc .vmem S1x512 .f32)
  (f1 : Memref sig .tc .vmem S128x64 .bf16) (d1 : Memref sig .tc .vmem S1x64 .f32)
  (f2 : Memref sig .tc .vmem S64x4 .bf16) (d2 : Memref sig .tc .vmem S1x1 .f32)
  (sa : Memref sig .tc .vmem S1280x208 .bf16) (sb : Memref sig .tc .vmem S1280x256 .bf16)
  (X : Held (F := Ideal) c x) (W0 : Held (F := Ideal) c w0) (W1 : Held (F := Ideal) c w1) (B1 : Held (F := Ideal) c b1)
  (F1 : Held (F := Ideal) c f1) (D1 : Held (F := Ideal) c d1) (F2 : Held (F := Ideal) c f2) (D2 : Held (F := Ideal) c d2)

/-! ### The rows of the operands -/

/-- The contents of a buffer as its memref reads them. -/
abbrev rd {sp : Space} {S : Shape} {e : EltTy} (M : Memref sig .tc sp S e) (f : Held (F := Ideal) c M) : S.Idx → Elt Ideal e :=
  M.view.read (Elt Ideal) f

theorem zero2 : (![0, 0] : Fin 2 → ℕ) = fun _ => 0 := by
  funext a
  refine Fin.cases rfl (fun a => ?_) a
  obtain rfl : a = 0 := Subsingleton.elim _ _
  rfl

/-- The rows' constants, -/
def rowsX (R : Fin 1280) : Fin 208 → EReal := rowConst fun q => rd c x X (ix2 R q)

/-- the first layer's weights of step `j`, -/
def matA (w : FVec Ideal S208x6144 .bf16) (j : ℕ) (k : Fin 208) (q : Fin 512) : EReal :=
  if h : j * 512 + q < 6144 then w (ix2 k ⟨j * 512 + q, h⟩) else 0

/-- the second layer's weights and its bias, -/
def matB (k : Fin 256) (q : Fin 512) : EReal := rd c w1 W1 (ix2 k q)
def biasB (q : Fin 512) : EReal := rd c b1 B1 (ix2 0 q)

/-- and the states of the rows of a block after `j` steps. -/
def blockAt (j : ℕ) (R : Fin 1280) : RowState :=
  rowAt (rowsX c x X R) (matA (rd c w0 W0)) (matB c w1 W1) (biasB c b1 B1) j

/-- A load of 512 columns of the first layer's weights. -/
theorem load_A (j : ℕ) (hj : j < 12) (inb : ∀ a, (![0, j * 512] : Fin 2 → ℕ) a + S208x512.size a ≤ S208x6144.size a) (k : Fin 208) (q : Fin 512) :
    (View.readAt (Elt Ideal) w0.view (Rect.unit (s := S208x6144) ![0, j * 512] S208x512.size inb).toLoadRect W0 : FVec Ideal S208x512 .bf16) (ix2 k q)
      = matA (rd c w0 W0) j k q := by
  have h : j * 512 + (q : ℕ) < 6144 := by omega
  rw [matA, dif_pos h, View.readAt_eq_ld]
  refine View.ld_unit_apply_of _ _ _ _ _ _ fun a => ?_
  refine Fin.cases ?_ (fun a => ?_) a
  · exact (Nat.zero_add _).symm
  · obtain rfl : a = 0 := Subsingleton.elim _ _
    rfl

theorem load_B (k : Fin 256) (q : Fin 512) :
    (View.readAt (Elt Ideal) w1.view (Rect.unit (s := S256x512) ![0, 0] S256x512.size inb_S256x512_S256x512_0_0).toLoadRect W1 : FVec Ideal S256x512 .bf16)
      (ix2 k q) = matB c w1 W1 k q :=
  congrFun (View.ld_unit_zero zero2 _ _) _

theorem load_B_top (k : Fin 128) (q : Fin 512) :
    (View.readAt (Elt Ideal) w1.view (Rect.unit (s := S256x512) ![0, 0] S128x512.size inb_S256x512_S128x512_0_0).toLoadRect W1 : FVec Ideal S128x512 .bf16)
      (ix2 k q) = matB c w1 W1 ⟨k, by omega⟩ q := by
  rw [View.readAt_eq_ld]
  refine View.ld_unit_apply_of _ _ _ _ _ _ fun a => ?_
  refine Fin.cases ?_ (fun a => ?_) a
  · exact (Nat.zero_add _).symm
  · obtain rfl : a = 0 := Subsingleton.elim _ _
    exact (Nat.zero_add _).symm

theorem load_bias (q : Fin 512) : (bodyRun.sl.r (F := Ideal) c b1 B1) (ix2 0 q) = biasB c b1 B1 q := by
  have h : (View.readAt (Elt Ideal) b1.view (Rect.unit (s := S1x512) ![0, 0] S1x512.size inb_S1x512_S1x512_0_0).toLoadRect B1 : FVec Ideal S1x512 .f32)
      = rd c b1 B1 :=
    View.ld_unit_zero zero2 _ _
  show k0_pay4 (F := Ideal) _ _ = _
  rw [h]
  pointwise [k0_pay4, biasB]

/-! ### Before the first step -/

theorem init_A : InvA (bodyRun.sl.Hsa_1 (F := Ideal) c x X) (fun _ _ => 0) (rowsX c x X) := fun R k => by
  have h : (View.readAt (Elt Ideal) x.view (Rect.unit (s := S1280x512) ![0, 0] S1280x512.size inb_S1280x512_S1280x512_0_0).toLoadRect X : FVec Ideal S1280x512 .f32)
      = rd c x X :=
    View.ld_unit_zero zero2 _ _
  refine (congrFun (View.canon_cons_unit_zero (S := S1280x208) zero2 _ _ _) _).trans ?_
  rw [h, pay2_row]
  split
  · next hk => exact if_pos hk
  · rfl

theorem init_B : InvB (bodyRun.sl.Hsb_1 (F := Ideal)) (fun _ _ => 0) (fun _ _ => 0) := fun R k => by
  refine (congrFun (View.canon_cons_unit_zero (S := S1280x256) zero2 _ _ _) _).trans ?_
  rw [pay3_row]
  split <;> rfl

/-! ### The steps -/

section
set_option maxHeartbeats 1000000

theorem holds_1 : Holds (blockAt c x w0 w1 b1 X W0 W1 B1 1) (rowsX c x X) (bodyRun.sl.Hsa_3 (F := Ideal) c x w0 sa X W0)
      (bodyRun.sl.Hsb_5 (F := Ideal) c x w0 w1 b1 sa sb X W0 W1 B1)
      (bodyRun.sl.r_3 c x w0 sa X W0) (bodyRun.sl.r_4 c x w0 sa X W0) (bodyRun.sl.r_7 c x w0 w1 b1 sa sb X W0 W1 B1) (bodyRun.sl.r_8 c x w0 w1 b1 sa sb X W0 W1 B1) := by
  have hA := step_A0 sa.view (init_A c x X) init_B _ (load_A c w0 W0 0 (by decide) inb_S208x6144_S208x512_0_0) _ rfl
  have hB := step_B0 sb.view hA.2.1 _ (load_B_top c w1 W1) _ (load_bias c b1 B1)
  exact ⟨hA.1, hB.1, hA.2.2.1, hA.2.2.2, hB.2.1, hB.2.2⟩

theorem holds_2 : Holds (blockAt c x w0 w1 b1 X W0 W1 B1 2) (rowsX c x X) (bodyRun.sl.Hsa_5 (F := Ideal) c x w0 sa X W0)
      (⟨Rect.unit (s := S1280x256) ![640, 128] S640x128.size inb_S1280x256_S640x128_640_128, k0_pay42 (F := Ideal) (bodyRun.sl.r_16 c x w0 w1 b1 sa sb X W0 W1 B1)⟩ :: bodyRun.sl.Hsb_8 c x w0 w1 b1 sa sb X W0 W1 B1)
      (bodyRun.sl.r_12 c x w0 sa X W0) (bodyRun.sl.r_13 c x w0 sa X W0) (bodyRun.sl.r_14 c x w0 w1 b1 sa sb X W0 W1 B1) (bodyRun.sl.r_15 c x w0 w1 b1 sa sb X W0 W1 B1) :=
  step_B sb.view (step_A sa.view (holds_1 c x w0 w1 b1 sa sb X W0 W1 B1) _ (load_A c w0 W0 1 (by decide) inb_S208x6144_S208x512_0_512))
    _ (load_B c w1 W1) _ (load_bias c b1 B1)

theorem holds_3 : Holds (blockAt c x w0 w1 b1 X W0 W1 B1 3) (rowsX c x X) (bodyRun.sl.Hsa_7 (F := Ideal) c x w0 sa X W0)
      (bodyRun.sl.Hsb_13 (F := Ideal) c x w0 w1 b1 sa sb X W0 W1 B1)
      (bodyRun.sl.r_17 c x w0 sa X W0) (bodyRun.sl.r_19 c x w0 sa X W0) (bodyRun.sl.r_22 c x w0 w1 b1 sa sb X W0 W1 B1) (bodyRun.sl.r_24 c x w0 w1 b1 sa sb X W0 W1 B1) :=
  step_B sb.view (step_A sa.view (holds_2 c x w0 w1 b1 sa sb X W0 W1 B1) _ (load_A c w0 W0 2 (by decide) inb_S208x6144_S208x512_0_1024))
    _ (load_B c w1 W1) _ (load_bias c b1 B1)

theorem holds_4 : Holds (blockAt c x w0 w1 b1 X W0 W1 B1 4) (rowsX c x X) (bodyRun.sl.Hsa_9 (F := Ideal) c x w0 sa X W0)
      (bodyRun.sl.Hsb_17 (F := Ideal) c x w0 w1 b1 sa sb X W0 W1 B1)
      (bodyRun.sl.r_26 c x w0 sa X W0) (bodyRun.sl.r_29 c x w0 sa X W0) (bodyRun.sl.r_33 c x w0 w1 b1 sa sb X W0 W1 B1) (bodyRun.sl.r_34 c x w0 w1 b1 sa sb X W0 W1 B1) :=
  step_B sb.view (step_A sa.view (holds_3 c x w0 w1 b1 sa sb X W0 W1 B1) _ (load_A c w0 W0 3 (by decide) inb_S208x6144_S208x512_0_1536))
    _ (load_B c w1 W1) _ (load_bias c b1 B1)

theorem holds_5 : Holds (blockAt c x w0 w1 b1 X W0 W1 B1 5) (rowsX c x X) (bodyRun.sl.Hsa_11 (F := Ideal) c x w0 sa X W0)
      (⟨Rect.unit (s := S1280x256) ![640, 128] S640x128.size inb_S1280x256_S640x128_640_128, k0_pay98 (F := Ideal) (bodyRun.sl.r_42 c x w0 w1 b1 sa sb X W0 W1 B1)⟩ :: bodyRun.sl.Hsb_20 c x w0 w1 b1 sa sb X W0 W1 B1)
      (bodyRun.sl.r_38 c x w0 sa X W0) (bodyRun.sl.r_39 c x w0 sa X W0) (bodyRun.sl.r_40 c x w0 w1 b1 sa sb X W0 W1 B1) (bodyRun.sl.r_41 c x w0 w1 b1 sa sb X W0 W1 B1) :=
  step_B sb.view (step_A sa.view (holds_4 c x w0 w1 b1 sa sb X W0 W1 B1) _ (load_A c w0 W0 4 (by decide) inb_S208x6144_S208x512_0_2048))
    _ (load_B c w1 W1) _ (load_bias c b1 B1)

theorem holds_6 : Holds (blockAt c x w0 w1 b1 X W0 W1 B1 6) (rowsX c x X) (bodyRun.sl.Hsa_13 (F := Ideal) c x w0 sa X W0)
      (bodyRun.sl.Hsb_25 (F := Ideal) c x w0 w1 b1 sa sb X W0 W1 B1)
      (bodyRun.sl.r_43 c x w0 sa X W0) (bodyRun.sl.r_45 c x w0 sa X W0) (bodyRun.sl.r_48 c x w0 w1 b1 sa sb X W0 W1 B1) (bodyRun.sl.r_50 c x w0 w1 b1 sa sb X W0 W1 B1) :=
  step_B sb.view (step_A sa.view (holds_5 c x w0 w1 b1 sa sb X W0 W1 B1) _ (load_A c w0 W0 5 (by decide) inb_S208x6144_S208x512_0_2560))
    _ (load_B c w1 W1) _ (load_bias c b1 B1)

theorem holds_7 : Holds (blockAt c x w0 w1 b1 X W0 W1 B1 7) (rowsX c x X) (bodyRun.sl.Hsa_15 (F := Ideal) c x w0 sa X W0)
      (bodyRun.sl.Hsb_29 (F := Ideal) c x w0 w1 b1 sa sb X W0 W1 B1)
      (bodyRun.sl.r_52 c x w0 sa X W0) (bodyRun.sl.r_55 c x w0 sa X W0) (bodyRun.sl.r_59 c x w0 w1 b1 sa sb X W0 W1 B1) (bodyRun.sl.r_60 c x w0 w1 b1 sa sb X W0 W1 B1) :=
  step_B sb.view (step_A sa.view (holds_6 c x w0 w1 b1 sa sb X W0 W1 B1) _ (load_A c w0 W0 6 (by decide) inb_S208x6144_S208x512_0_3072))
    _ (load_B c w1 W1) _ (load_bias c b1 B1)

theorem holds_8 : Holds (blockAt c x w0 w1 b1 X W0 W1 B1 8) (rowsX c x X) (bodyRun.sl.Hsa_17 (F := Ideal) c x w0 sa X W0)
      (⟨Rect.unit (s := S1280x256) ![640, 128] S640x128.size inb_S1280x256_S640x128_640_128, k0_pay154 (F := Ideal) (bodyRun.sl.r_68 c x w0 w1 b1 sa sb X W0 W1 B1)⟩ :: bodyRun.sl.Hsb_32 c x w0 w1 b1 sa sb X W0 W1 B1)
      (bodyRun.sl.r_64 c x w0 sa X W0) (bodyRun.sl.r_65 c x w0 sa X W0) (bodyRun.sl.r_66 c x w0 w1 b1 sa sb X W0 W1 B1) (bodyRun.sl.r_67 c x w0 w1 b1 sa sb X W0 W1 B1) :=
  step_B sb.view (step_A sa.view (holds_7 c x w0 w1 b1 sa sb X W0 W1 B1) _ (load_A c w0 W0 7 (by decide) inb_S208x6144_S208x512_0_3584))
    _ (load_B c w1 W1) _ (load_bias c b1 B1)

theorem holds_9 : Holds (blockAt c x w0 w1 b1 X W0 W1 B1 9) (rowsX c x X) (bodyRun.sl.Hsa_19 (F := Ideal) c x w0 sa X W0)
      (bodyRun.sl.Hsb_37 (F := Ideal) c x w0 w1 b1 sa sb X W0 W1 B1)
      (bodyRun.sl.r_69 c x w0 sa X W0) (bodyRun.sl.r_71 c x w0 sa X W0) (bodyRun.sl.r_74 c x w0 w1 b1 sa sb X W0 W1 B1) (bodyRun.sl.r_76 c x w0 w1 b1 sa sb X W0 W1 B1) :=
  step_B sb.view (step_A sa.view (holds_8 c x w0 w1 b1 sa sb X W0 W1 B1) _ (load_A c w0 W0 8 (by decide) inb_S208x6144_S208x512_0_4096))
    _ (load_B c w1 W1) _ (load_bias c b1 B1)

theorem holds_10 : Holds (blockAt c x w0 w1 b1 X W0 W1 B1 10) (rowsX c x X) (bodyRun.sl.Hsa_21 (F := Ideal) c x w0 sa X W0)
      (bodyRun.sl.Hsb_41 (F := Ideal) c x w0 w1 b1 sa sb X W0 W1 B1)
      (bodyRun.sl.r_78 c x w0 sa X W0) (bodyRun.sl.r_81 c x w0 sa X W0) (bodyRun.sl.r_85 c x w0 w1 b1 sa sb X W0 W1 B1) (bodyRun.sl.r_86 c x w0 w1 b1 sa sb X W0 W1 B1) :=
  step_B sb.view (step_A sa.view (holds_9 c x w0 w1 b1 sa sb X W0 W1 B1) _ (load_A c w0 W0 9 (by decide) inb_S208x6144_S208x512_0_4608))
    _ (load_B c w1 W1) _ (load_bias c b1 B1)

theorem holds_11 : Holds (blockAt c x w0 w1 b1 X W0 W1 B1 11) (rowsX c x X) (bodyRun.sl.Hsa_23 (F := Ideal) c x w0 sa X W0)
      (⟨Rect.unit (s := S1280x256) ![640, 128] S640x128.size inb_S1280x256_S640x128_640_128, k0_pay210 (F := Ideal) (bodyRun.sl.r_94 c x w0 w1 b1 sa sb X W0 W1 B1)⟩ :: bodyRun.sl.Hsb_44 c x w0 w1 b1 sa sb X W0 W1 B1)
      (bodyRun.sl.r_90 c x w0 sa X W0) (bodyRun.sl.r_91 c x w0 sa X W0) (bodyRun.sl.r_92 c x w0 w1 b1 sa sb X W0 W1 B1) (bodyRun.sl.r_93 c x w0 w1 b1 sa sb X W0 W1 B1) :=
  step_B sb.view (step_A sa.view (holds_10 c x w0 w1 b1 sa sb X W0 W1 B1) _ (load_A c w0 W0 10 (by decide) inb_S208x6144_S208x512_0_5120))
    _ (load_B c w1 W1) _ (load_bias c b1 B1)

/-- The last hidden states of the two halves. -/
theorem last : IsHalf low (bodyRun.sl.r_97 (F := Ideal) c x w0 w1 b1 sa sb X W0 W1 B1) (fun R => (blockAt c x w0 w1 b1 X W0 W1 B1 12 R).h')
      ∧ IsHalf high (φ := .f32) (bodyRun.sl.r_96 (F := Ideal) c x w0 w1 b1 sa sb X W0 W1 B1) (fun R => (blockAt c x w0 w1 b1 X W0 W1 B1 12 R).h') := by
  have h := cells_B sb.view (step_A sa.view (holds_11 c x w0 w1 b1 sa sb X W0 W1 B1) _ (load_A c w0 W0 11 (by decide) inb_S208x6144_S208x512_0_5632))
    _ (load_B c w1 W1) _ (load_bias c b1 B1)
  exact ⟨h.1.2, h.2.2⟩

end

/-! ### The output -/

/-- The output of a block of rows. -/
def blockOut (R : Fin 1280) (g : Fin 4) : EReal :=
  headRow (blockAt c x w0 w1 b1 X W0 W1 B1 12 R).h' (fun k m => rd c f1 F1 (ix2 k m)) (fun m => rd c d1 D1 (ix2 0 m))
    (fun m g => rd c f2 F2 (ix2 m g)) (rd c d2 D2 (ix2 0 0)) g

theorem head_half {ι : Fin 640 → Fin 1280} (h : FVec Ideal S640x128 .bf16)
    (hh : IsHalf ι h (fun R => (blockAt c x w0 w1 b1 X W0 W1 B1 12 R).h')) (r : Fin 640) (g : Fin 4) :
    k0_pay217 (F := Ideal) h
        (View.readAt (Elt Ideal) f1.view (Rect.unit (s := S128x64) ![0, 0] S128x64.size inb_S128x64_S128x64_0_0).toLoadRect F1)
        (View.readAt (Elt Ideal) d1.view (Rect.unit (s := S1x64) ![0, 0] S1x64.size inb_S1x64_S1x64_0_0).toLoadRect D1)
        (View.readAt (Elt Ideal) f2.view (Rect.unit (s := S64x4) ![0, 0] S64x4.size inb_S64x4_S64x4_0_0).toLoadRect F2)
        (View.readAt (Elt Ideal) d2.view (Rect.unit (s := S1x1) ![0, 0] S1x1.size inb_S1x1_S1x1_0_0).toLoadRect D2) (ix2 r g)
      = blockOut c x w0 w1 b1 f1 d1 f2 d2 X W0 W1 B1 F1 D1 F2 D2 (ι r) g := by
  have e1 : (View.readAt (Elt Ideal) f1.view (Rect.unit (s := S128x64) ![0, 0] S128x64.size inb_S128x64_S128x64_0_0).toLoadRect F1 : FVec Ideal S128x64 .bf16)
      = rd c f1 F1 := View.ld_unit_zero zero2 _ _
  have e2 : (View.readAt (Elt Ideal) d1.view (Rect.unit (s := S1x64) ![0, 0] S1x64.size inb_S1x64_S1x64_0_0).toLoadRect D1 : FVec Ideal S1x64 .f32)
      = rd c d1 D1 := View.ld_unit_zero zero2 _ _
  have e3 : (View.readAt (Elt Ideal) f2.view (Rect.unit (s := S64x4) ![0, 0] S64x4.size inb_S64x4_S64x4_0_0).toLoadRect F2 : FVec Ideal S64x4 .bf16)
      = rd c f2 F2 := View.ld_unit_zero zero2 _ _
  have e4 : (View.readAt (Elt Ideal) d2.view (Rect.unit (s := S1x1) ![0, 0] S1x1.size inb_S1x1_S1x1_0_0).toLoadRect D2 : FVec Ideal S1x1 .f32)
      = rd c d2 D2 := View.ld_unit_zero zero2 _ _
  rw [e1, e2, e3, e4, pay217_row]
  exact congrArg (fun s => headRow s _ _ _ _ g) (funext fun k => hh r k)

/-- The output buffer's contents after the body, at an index. -/
theorem out_row (R : Fin 1280) (g : Fin 4) :
    View.canon (bodyRun.sl.Ho_2 (F := Ideal) c x w0 w1 b1 f1 d1 f2 d2 sa sb X W0 W1 B1 F1 D1 F2 D2) (ix2 R g)
      = blockOut c x w0 w1 b1 f1 d1 f2 d2 X W0 W1 B1 F1 D1 F2 D2 R g := by
  have h := last c x w0 w1 b1 sa sb X W0 W1 B1
  rcases low_or_high R with ⟨r, rfl⟩ | ⟨r, rfl⟩
  · refine (canon_put_out (N := 4) (M := 4) (e := .f32) 640 0 _ _ _ _ g (.inl r.2)).trans ?_
    refine (canon_put_in (N := 4) (M := 4) (e := .f32) 0 0 _ _ _ _ g r g (Nat.zero_add _).symm (Nat.zero_add _).symm).trans ?_
    exact head_half c x w0 w1 b1 f1 d1 f2 d2 X W0 W1 B1 F1 D1 F2 D2 _ h.1 r g
  · refine (canon_put_in (N := 4) (M := 4) (e := .f32) 640 0 _ _ _ _ g r g rfl (Nat.zero_add _).symm).trans ?_
    exact head_half c x w0 w1 b1 f1 d1 f2 d2 X W0 W1 B1 F1 D1 F2 D2 _ h.2 r g

end Cert.KernelIdeal.Proof

end
-- ==== Proof.Node.lean ====
/-
  The recursion of one node, and the identities on extended reals that carry the kernel's form of it to the plain one.

  A node has two recurrent layers of 32 units. Whatever the weights, a gate is the logistic function or the hyperbolic
  tangent of something, so it is a real number, and with it the states: the recursion is stated over real states.
-/
module

public import Idealize.ShloMosaic.PureOps.Ideal
public import Mathlib.Data.EReal.Operations
public import Mathlib.Analysis.SpecialFunctions.Trigonometric.DerivHyp

@[expose] public section

noncomputable section

namespace Cert.Node

open Idealize.ShloMosaic

/-! ### The two gate functions are real -/

def th (z : EReal) : ℝ := (Ideal.tanh z).toReal
def sg (z : EReal) : ℝ := (Ideal.logistic z).toReal

theorem coe_th (z : EReal) : Ideal.tanh z = (th z : EReal) := by
  induction z with
  | bot => rw [th, Ideal.tanh_bot]; norm_cast
  | top => rw [th, Ideal.tanh_top]; norm_cast
  | coe r => rw [th, Ideal.tanh_coe, EReal.toReal_coe]

theorem coe_sg (z : EReal) : Ideal.logistic z = (sg z : EReal) := by
  induction z with
  | bot => rw [sg, Ideal.logistic_bot]; norm_cast
  | top => rw [sg, Ideal.logistic_top]; norm_cast
  | coe r => rw [sg, Ideal.logistic_coe, EReal.toReal_coe]

/-- The number one half. -/
def hf : EReal := ((1 / 2 : ℝ) : EReal)

theorem logistic_real (r : ℝ) : (1 + Real.exp (-r))⁻¹ = 1 / 2 * Real.tanh (r * (1 / 2)) + 1 / 2 := by
  have e : Real.exp (-r) = (Real.exp (r * (1 / 2)))⁻¹ * (Real.exp (r * (1 / 2)))⁻¹ := by
    rw [← Real.exp_neg, ← Real.exp_add]
    congr 1
    ring
  rw [e, Real.tanh_eq_sinh_div_cosh, Real.sinh_eq, Real.cosh_eq, Real.exp_neg]
  have h := Real.exp_pos (r * (1 / 2))
  generalize Real.exp (r * (1 / 2)) = a at h
  field_simp
  ring

/-- The logistic function by the hyperbolic tangent of half the argument. -/
theorem sg_eq (z : EReal) : sg z = 1 / 2 * th (z * hf) + 1 / 2 := by
  have hp : (0 : EReal) < hf := by
    unfold hf
    exact_mod_cast (by norm_num : (0 : ℝ) < 1 / 2)
  induction z with
  | bot => rw [EReal.bot_mul_of_pos hp, sg, th, Ideal.logistic_bot, Ideal.tanh_bot]; norm_num
  | top => rw [EReal.top_mul_of_pos hp, sg, th, Ideal.logistic_top, Ideal.tanh_top]; norm_num
  | coe r =>
    have e : (r : EReal) * hf = ((r * (1 / 2) : ℝ) : EReal) := (EReal.coe_mul _ _).symm
    rw [e, sg, th, Ideal.logistic_coe, Ideal.tanh_coe, EReal.toReal_coe, EReal.toReal_coe, logistic_real]

/-! ### The recursion -/

/-- One layer's gates before their functions, from the layer's input and its state. -/
def pre {K : ℕ} (y : Fin K → EReal) (h : Fin 32 → ℝ) (wi : Fin 128 → Fin K → EReal) (wh : Fin 128 → Fin 32 → EReal)
    (bi bh : Fin 128 → EReal) (n : Fin 128) : EReal :=
  ((∑ p, y p * wi n p) + ∑ u, (h u : EReal) * wh n u) + bi n + bh n

/-- The cell state from the gates and the old one, -/
def newC (z : Fin 128 → EReal) (c : Fin 32 → ℝ) (u : Fin 32) : ℝ :=
  sg (z ⟨32 + u, by omega⟩) * c u + sg (z ⟨u, by omega⟩) * th (z ⟨64 + u, by omega⟩)

/-- and the layer's state. -/
def newH (z : Fin 128 → EReal) (c : Fin 32 → ℝ) (u : Fin 32) : ℝ :=
  sg (z ⟨96 + u, by omega⟩) * th (newC z c u)

/-- Both layers' weights. -/
structure Net where
  wi : Fin 128 → Fin 16 → EReal
  wh : Fin 128 → Fin 32 → EReal
  bi : Fin 128 → EReal
  bh : Fin 128 → EReal
  wi' : Fin 128 → Fin 32 → EReal
  wh' : Fin 128 → Fin 32 → EReal
  bi' : Fin 128 → EReal
  bh' : Fin 128 → EReal

/-- A node's state. -/
structure State where
  h : Fin 32 → ℝ
  c : Fin 32 → ℝ
  h' : Fin 32 → ℝ
  c' : Fin 32 → ℝ

variable (P : Net)

def gates (y : Fin 16 → EReal) (s : State) : Fin 128 → EReal := pre y s.h P.wi P.wh P.bi P.bh
def gates' (h : Fin 32 → ℝ) (s : State) : Fin 128 → EReal := pre (fun u => (h u : EReal)) s.h' P.wi' P.wh' P.bi' P.bh'

def State.next (y : Fin 16 → EReal) (s : State) : State where
  h := newH (gates P y s) s.c
  c := newC (gates P y s) s.c
  h' := newH (gates' P (newH (gates P y s) s.c) s) s.c'
  c' := newC (gates' P (newH (gates P y s) s.c) s) s.c'

/-- A node's state after `j` time steps with inputs `y`. -/
def stateAt (y : ℕ → Fin 16 → EReal) : ℕ → State
  | 0 => ⟨fun _ => 0, fun _ => 0, fun _ => 0, fun _ => 0⟩
  | j + 1 => (stateAt y j).next P (y j)

/-- The two dense layers at the end, on one node. -/
def head (h : Fin 32 → ℝ) (f : Fin 32 → Fin 16 → EReal) (d : Fin 16 → EReal) (f' : Fin 16 → EReal) (d' : EReal) : EReal :=
  (∑ m, max ((∑ u, (h u : EReal) * f u m) + d m) 0 * f' m) + d'

/-! ### Sums of extended reals -/

theorem sum_split (a b : ℕ) (F : Fin (a * b) → EReal) :
    ∑ k, F k = ∑ g : Fin a, ∑ u : Fin b, F ⟨g * b + u, by
      calc (g : ℕ) * b + u < g * b + b := by omega
        _ = (g + 1) * b := by ring
        _ ≤ a * b := Nat.mul_le_mul_right _ (by omega)⟩ := by
  rw [← Fintype.sum_prod_type', ← finProdFinEquiv.sum_comp]
  refine Finset.sum_congr rfl fun x _ => congrArg F (Fin.ext ?_)
  show (x.2 : ℕ) + b * x.1 = x.1 * b + x.2
  ring

theorem hf_nonneg : 0 ≤ hf := by
  unfold hf
  exact_mod_cast (by norm_num : (0 : ℝ) ≤ 1 / 2)

theorem add_mul_real {s : EReal} (h0 : 0 ≤ s) (ht : s ≠ ⊤) (a b : EReal) : (a + b) * s = a * s + b * s :=
  EReal.right_distrib_of_nonneg_of_ne_top h0 ht a b

theorem sum_mul_real {ι : Type} [Fintype ι] {s : EReal} (h0 : 0 ≤ s) (ht : s ≠ ⊤) (f : ι → EReal) :
    (∑ i, f i) * s = ∑ i, f i * s := by
  classical
  refine Finset.induction_on (Finset.univ : Finset ι) (by simp) fun i A hi ih => ?_
  rw [Finset.sum_insert hi, Finset.sum_insert hi, add_mul_real h0 ht, ih]

/-- A real summand and a real factor: the product distributes whatever the other summand. -/
theorem real_add_mul (y w : ℝ) (b : EReal) : ((y : EReal) + b) * w = (y : EReal) * w + b * w := by
  induction b with
  | coe r => norm_cast; ring
  | top =>
    rw [EReal.coe_add_top]
    rcases lt_trichotomy w 0 with h | h | h
    · rw [EReal.top_mul_coe_of_neg h, ← EReal.coe_mul, EReal.add_bot]
    · subst h; simp
    · rw [EReal.top_mul_coe_of_pos h, ← EReal.coe_mul, EReal.coe_add_top]
  | bot =>
    rw [EReal.add_bot]
    rcases lt_trichotomy w 0 with h | h | h
    · rw [EReal.bot_mul_coe_of_neg h, ← EReal.coe_mul, EReal.coe_add_top]
    · subst h; simp
    · rw [EReal.bot_mul_coe_of_pos h, ← EReal.coe_mul, EReal.add_bot]

theorem coe_sum {ι : Type} [Fintype ι] (f : ι → ℝ) : ∑ i, (f i : EReal) = ((∑ i, f i : ℝ) : EReal) := by
  classical
  refine Finset.induction_on (Finset.univ : Finset ι) (by simp) fun i A hi ih => ?_
  rw [Finset.sum_insert hi, Finset.sum_insert hi, EReal.coe_add, ih]

/-- The input projection pulled through a layer's input weights: of a real input, with real weights and any bias. -/
theorem pull {ι : Type} [Fintype ι] (x : ℝ) (a w : ι → ℝ) (b : ι → EReal) :
    ∑ p, ((x : EReal) * a p + b p) * (w p : EReal) = (x : EReal) * (∑ p, (a p : EReal) * (w p : EReal)) + ∑ p, b p * (w p : EReal) := by
  have e (p : ι) : ((x : EReal) * a p + b p) * (w p : EReal) = ((x * (a p * w p) : ℝ) : EReal) + b p * w p := by
    rw [← EReal.coe_mul, real_add_mul, ← EReal.coe_mul, mul_assoc]
  have e' : ∑ p, (a p : EReal) * (w p : EReal) = ((∑ p, a p * w p : ℝ) : EReal) := by
    rw [← coe_sum]
    exact Finset.sum_congr rfl fun p _ => (EReal.coe_mul _ _).symm
  rw [Finset.sum_congr rfl fun p _ => e p, Finset.sum_add_distrib, e', ← EReal.coe_mul, Finset.mul_sum, coe_sum]

/-- A sum over the nodes of a row keeps one node, when the factor is the identity matrix's. -/
theorem pick {b : ℕ} (g : Fin 4) (f : Fin 4 → Fin b → EReal) (A : Fin b → EReal) :
    ∑ g' : Fin 4, ∑ u, f g' u * ((if g' = g then 1 else 0) * A u) = ∑ u, f g u * A u := by
  rw [Finset.sum_eq_single g]
  · simp only [if_true, one_mul]
  · intro g' _ hg
    simp only [if_neg hg, zero_mul, mul_zero, Finset.sum_const_zero]
  · exact fun h => absurd (Finset.mem_univ g) h

/-- The doubled state against halved weights. -/
theorem doubled (h : ℝ) (w s : EReal) : ((2 * h : ℝ) : EReal) * ((hf * w) * s) = ((h : EReal) * w) * s := by
  have e : ((2 * h : ℝ) : EReal) * hf = h := by
    unfold hf
    rw [← EReal.coe_mul]
    congr 1
    ring
  rw [mul_assoc, ← mul_assoc, e, mul_assoc]

theorem doubled' (h : ℝ) (w : EReal) : ((2 * h : ℝ) : EReal) * (hf * w) = (h : EReal) * w := by
  have := doubled h w 1
  rwa [mul_one, mul_one] at this

/-! ### The cell -/

/-- The cell state by hyperbolic tangents: `z` halved where the gate is a logistic function. -/
theorem cell_real (zi zf zg : EReal) (c : ℝ) :
    hf * ((Ideal.tanh (zf * hf) * (c : EReal) + c) + (Ideal.tanh (zi * hf) * Ideal.tanh zg + Ideal.tanh zg))
      = ((sg zf * c + sg zi * th zg : ℝ) : EReal) := by
  simp only [coe_th, sg_eq, hf]
  norm_cast
  ring

/-- The state comes out doubled. -/
theorem hidden_real (zo : EReal) (c : ℝ) :
    Ideal.tanh (zo * hf) * Ideal.tanh (c : EReal) + Ideal.tanh (c : EReal) = ((2 * (sg zo * th c) : ℝ) : EReal) := by
  simp only [coe_th, sg_eq, hf]
  norm_cast
  ring

end Cert.Node

end
-- ==== Proof.NodeRow.lean ====
/-
  A row of the kernel is four nodes.

  The kernel's weights are block diagonal over a row's four nodes, so a gate of a row reads one node's state and time
  entries only; the hidden states are kept doubled, and the halves in the weights make up for it. With real time entries,
  input projection and first input weights each row's state is that of `Node` of its four nodes.
-/
module

public import proofs.«01_k».proof.Proof.HostRow
public import proofs.«01_k».proof.Proof.Scan
public import proofs.«01_k».proof.Proof.Node

@[expose] public section

set_option maxRecDepth 16384

noncomputable section

namespace Cert.KernelIdeal.Proof

open Cert.KernelIdeal Cert.KernelIdeal.Gen

open Idealize.ShloMosaic Idealize.ShloMosaic.TcCoe Idealize.SL.Sem

theorem half_eq : half = Node.hf := by
  unfold half Node.hf
  simp [Ideal.ofBits, Ideal.ieee, -EReal.coe_mul]
  norm_num

theorem sc_nonneg (n : Fin 128) : 0 ≤ sc n := by
  unfold sc
  split
  · exact zero_le_one
  · rw [half_eq]
    exact Node.hf_nonneg

theorem sc_ne_top (n : Fin 128) : sc n ≠ ⊤ := by
  unfold sc
  split
  · exact EReal.coe_ne_top 1
  · rw [half_eq]
    exact EReal.coe_ne_top _

theorem node_mk (g : Fin 4) (u : Fin 32) (h : (g : ℕ) * 32 + u < 128) : node ⟨(g : ℕ) * 32 + u, h⟩ = g :=
  Fin.ext (by show ((g : ℕ) * 32 + u) / 32 = g; omega)
theorem unit_mk (g : Fin 4) (u : Fin 32) (h : (g : ℕ) * 32 + u < 128) : unit ⟨(g : ℕ) * 32 + u, h⟩ = u :=
  Fin.ext (by show ((g : ℕ) * 32 + u) % 32 = u; omega)

/-! ### The sums of a gate -/

/-- Over a state: the node's own, undoubled. -/
theorem sum_state {h : Fin 128 → EReal} {H : Fin 4 → Fin 32 → ℝ} (hh : ∀ k, h k = ((2 * H (node k) (unit k) : ℝ) : EReal))
    (w : Fin 32 → EReal) (g : Fin 4) {s : EReal} (h0 : 0 ≤ s) (ht : s ≠ ⊤) :
    ∑ k : Fin 128, h k * ((if node k = g then 1 else 0) * ((half * w (unit k)) * s)) = (∑ u, (H g u : EReal) * w u) * s := by
  rw [Node.sum_mul_real h0 ht, half_eq]
  refine (Node.sum_split 4 32 (fun k => h k * ((if node k = g then 1 else 0) * ((Node.hf * w (unit k)) * s)))).trans ?_
  simp only [hh, node_mk, unit_mk]
  refine (Node.pick g (fun g' u => ((2 * H g' u : ℝ) : EReal)) (fun u => (Node.hf * w u) * s)).trans ?_
  exact Finset.sum_congr rfl fun u _ => Node.doubled _ _ _

theorem sum_208 (F : Fin 208 → EReal) : ∑ k, F k
    = (∑ k : Fin 128, F ⟨k, by omega⟩) + ((∑ e : Fin 64, F ⟨128 + e, by omega⟩) + ∑ f : Fin 16, F ⟨192 + f, by omega⟩) := by
  refine (Fin.sum_univ_add (a := 128) (b := 80) F).trans (congrArg (_ + ·) ?_)
  refine (Fin.sum_univ_add (a := 64) (b := 16) fun i => F (Fin.natAdd 128 i)).trans (congrArg (_ + ·) ?_)
  exact Finset.sum_congr rfl fun f _ => congrArg F (Fin.ext (by show 128 + (64 + (f : ℕ)) = 192 + f; omega))

theorem sum_256 (F : Fin 256 → EReal) : ∑ k, F k = (∑ k : Fin 128, F ⟨k, by omega⟩) + ∑ k : Fin 128, F ⟨128 + k, by omega⟩ :=
  Fin.sum_univ_add (a := 128) (b := 128) F

section First

variable (a : FVec Ideal S1x16 .f32) (t : FVec Ideal S16 .f32) (w : FVec Ideal S128x16 .f32) (r : FVec Ideal S128x32 .f32)
  (b b' : FVec Ideal S128 .f32) (x : Fin 512 → EReal)

/-- Over the time entries: the step's entry of the node. -/
theorem sum_time (j : Fin 12) (g : Fin 4) (v : EReal) :
    ∑ e : Fin 64, rowConst x ⟨128 + e, by omega⟩
        * (if 4 ≤ (e : ℕ) % 16 then
            (if (e : ℕ) % 16 - 4 = j then 1 else 0) * (if (e : ℕ) / 16 = g then 1 else 0) * v
          else 0)
      = x ⟨g * 128 + (116 + j), by omega⟩ * v := by
  rw [Finset.sum_eq_single (⟨g * 16 + (4 + j), by omega⟩ : Fin 64)]
  · have e1 : ((g : ℕ) * 16 + (4 + (j : ℕ))) % 16 = 4 + j := by omega
    have e2 : ((g : ℕ) * 16 + (4 + (j : ℕ))) / 16 = g := by omega
    simp only [e1, e2, Nat.le_add_right, if_true, Nat.add_sub_cancel_left, one_mul, rowConst]
    rw [if_neg (by omega), dif_pos (by omega)]
    refine congrArg (fun q => x q * v) (Fin.ext ?_)
    show (g : ℕ) * 128 + 112 + (4 + j) = g * 128 + (116 + j)
    omega
  · intro e _ he
    by_cases h : 4 ≤ (e : ℕ) % 16
    · rw [if_pos h]
      by_cases h1 : (e : ℕ) % 16 - 4 = j
      · rw [if_neg (show ¬ (e : ℕ) / 16 = g from fun h2 => he (Fin.ext (by show (e : ℕ) = g * 16 + (4 + j); omega))), mul_zero, zero_mul,
          mul_zero]
      · rw [if_neg h1, zero_mul, zero_mul, mul_zero]
    · rw [if_neg h, mul_zero]
  · exact fun h => absurd (Finset.mem_univ _) h

/-- Over the ones: the constant. -/
theorem sum_ones (v : EReal) : ∑ f : Fin 16, rowConst x ⟨192 + f, by omega⟩ * (if (f : ℕ) = 0 then v else 0) = v := by
  rw [Finset.sum_eq_single (0 : Fin 16)]
  · simp only [rowConst]
    rw [if_neg (by show ¬ 192 + 0 < 128; omega), dif_neg (by show ¬ 192 + 0 < 192; omega), one_mul, if_pos (by rfl)]
  · intro f _ hf
    rw [if_neg (show ¬ (f : ℕ) = 0 from fun h => hf (Fin.ext h)), mul_zero]
  · exact fun h => absurd (Finset.mem_univ _) h

variable {a t w r b b' x}

/-- A gate of the first layer before its scaling and its function. -/
theorem gateA_eq {h : Fin 128 → EReal} {H : Fin 4 → Fin 32 → ℝ} (hh : ∀ k, h k = ((2 * H (node k) (unit k) : ℝ) : EReal))
    {a' : Fin 16 → ℝ} (ha : ∀ p, a (ix2 0 p) = a' p) {w' : Fin 128 → Fin 16 → ℝ} (hw : ∀ n p, w (ix2 n p) = w' n p)
    (j : Fin 12) (q : Fin 512) {x' : ℝ} (hx : x ⟨grp q * 128 + (116 + j), by omega⟩ = x') :
    gateA h (rowConst x) (matA (weights0 a t w r b b') j) q
      = Ideal.tanh (Node.pre (fun p => x ⟨grp q * 128 + (116 + j), by omega⟩ * a (ix2 0 p) + t (ix1 p)) (H (grp q))
          (fun n p => w (ix2 n p)) (fun n u => r (ix2 n u)) (fun n => b (ix1 n)) (fun n => b' (ix1 n)) (col q) * sc (col q)) := by
  have hQ : (j : ℕ) * 512 + q < 6144 := by omega
  have eq : (⟨((j : ℕ) * 512 + q) % 512, by omega⟩ : Fin 512) = q := Fin.ext (by show ((j : ℕ) * 512 + q) % 512 = q; omega)
  have ej : ((j : ℕ) * 512 + q) / 512 = j := by omega
  unfold gateA
  refine congrArg Ideal.tanh ?_
  rw [sum_208]
  have e1 (k : Fin 128) : (if hk : (k : ℕ) < 128 then h ⟨k, hk⟩ else rowConst x ⟨k, by omega⟩) = h k := dif_pos k.isLt
  have e2 (e : Fin 64) : (if hk : 128 + (e : ℕ) < 128 then h ⟨128 + e, hk⟩ else rowConst x ⟨128 + e, by omega⟩)
      = rowConst x ⟨128 + e, by omega⟩ := dif_neg (by omega)
  have e3 (f : Fin 16) : (if hk : 192 + (f : ℕ) < 128 then h ⟨192 + f, hk⟩ else rowConst x ⟨192 + f, by omega⟩)
      = rowConst x ⟨192 + f, by omega⟩ := dif_neg (by omega)
  simp only [e1, e2, e3, matA, dif_pos hQ, weights0_state, weights0_time, weights0_ones, eq, ej]
  rw [sum_state hh (fun u => r (ix2 (col q) u)) (grp q) (sc_nonneg _) (sc_ne_top _), sum_time, sum_ones]
  have hp := Node.pull x' a' (w' (col q)) fun p => t (ix1 p)
  simp only [← ha, ← hw, ← hx] at hp
  unfold Node.pre
  rw [hp, ← mul_assoc, ← Node.add_mul_real (sc_nonneg _) (sc_ne_top _), ← Node.add_mul_real (sc_nonneg _) (sc_ne_top _)]
  refine congrArg (· * sc (col q)) ?_
  beta_reduce
  ac_rfl

end First

/-- A gate of the second layer before its scaling and its function. -/
theorem gateB_eq {w r : FVec Ideal S128x32 .f32} {b b' : FVec Ideal S128 .f32} {h h' : Fin 128 → EReal} {H H' : Fin 4 → Fin 32 → ℝ}
    (hh : ∀ k, h k = ((2 * H (node k) (unit k) : ℝ) : EReal)) (hh' : ∀ k, h' k = ((2 * H' (node k) (unit k) : ℝ) : EReal)) (q : Fin 512) :
    gateB h h' (fun k q => weights1 w r (ix2 k q)) (fun q => spreadB (bias1 b b') (ix2 0 q)) q
      = Ideal.tanh (Node.pre (fun u => (H (grp q) u : EReal)) (H' (grp q))
          (fun n p => w (ix2 n p)) (fun n u => r (ix2 n u)) (fun n => b (ix1 n)) (fun n => b' (ix1 n)) (col q) * sc (col q)) := by
  unfold gateB
  refine congrArg Ideal.tanh ?_
  rw [sum_256]
  have e0 (k : Fin 128) : (⟨128 + (k : ℕ) - 128, by omega⟩ : Fin 128) = k := Fin.ext (by show 128 + (k : ℕ) - 128 = k; omega)
  have e1 (k : Fin 128) : (if hk : (k : ℕ) < 128 then h ⟨k, hk⟩ else h' ⟨k - 128, by omega⟩) = h k := dif_pos k.isLt
  have e2 (k : Fin 128) : (if hk : 128 + (k : ℕ) < 128 then h ⟨128 + k, hk⟩ else h' ⟨128 + k - 128, by omega⟩) = h' k := by
    rw [dif_neg (by omega), e0]
  simp only [e1, e2, weights1_in, weights1_state, spreadB_at, bias1_at]
  rw [sum_state hh (fun u => w (ix2 (col q) u)) (grp q) (sc_nonneg _) (sc_ne_top _),
    sum_state hh' (fun u => r (ix2 (col q) u)) (grp q) (sc_nonneg _) (sc_ne_top _)]
  unfold Node.pre
  rw [← Node.add_mul_real (sc_nonneg _) (sc_ne_top _), ← Node.add_mul_real (sc_nonneg _) (sc_ne_top _)]
  refine congrArg (· * sc (col q)) ?_
  beta_reduce
  ac_rfl

/-! ### The cell -/

section Cell

variable {A : Fin 512 → EReal} {z : Fin 4 → Fin 128 → EReal} (hA : ∀ q, A q = Ideal.tanh (z (grp q) (col q) * sc (col q)))
  {c : Fin 128 → EReal} {C : Fin 4 → Fin 32 → ℝ} (hc : ∀ n, c n = (C (node n) (unit n) : EReal))

include hA

/-- The gate of number `b` at a unit. -/
theorem gate_part (n : Fin 128) (b : ℕ) (hb : b < 4) :
    A ⟨128 * b + n, by omega⟩ = Ideal.tanh (z (node n) ⟨32 * b + unit n, by have := (unit n).isLt; omega⟩
      * (if b = 2 then 1 else Node.hf)) := by
  have eg : grp ⟨128 * b + n, by omega⟩ = node n := Fin.ext (by show (128 * b + (n : ℕ)) / 32 % 4 = n / 32; omega)
  have ec : col ⟨128 * b + n, by omega⟩ = ⟨32 * b + unit n, by have := (unit n).isLt; omega⟩ :=
    Fin.ext (by show (128 * b + (n : ℕ)) / 128 * 32 + (128 * b + (n : ℕ)) % 32 = 32 * b + n % 32; omega)
  have es : sc ⟨32 * b + unit n, by have := (unit n).isLt; omega⟩ = if b = 2 then 1 else Node.hf := by
    have hu := (unit n).isLt
    unfold sc
    by_cases h : b = 2
    · rw [if_pos h, if_pos (by show 64 ≤ 32 * b + (unit n : ℕ) ∧ 32 * b + (unit n : ℕ) < 96; omega)]
    · rw [if_neg h, if_neg (by show ¬ (64 ≤ 32 * b + (unit n : ℕ) ∧ 32 * b + (unit n : ℕ) < 96); omega), half_eq]
  rw [hA, eg, ec, es]

include hc in
theorem cellC_eq (n : Fin 128) : cellC A c n = (Node.newC (z (node n)) (C (node n)) (unit n) : EReal) := by
  have g0 := gate_part hA n 0 (by omega)
  have g1 := gate_part hA n 1 (by omega)
  have g2 := gate_part hA n 2 (by omega)
  simp only [Nat.mul_zero, Nat.zero_add, Nat.mul_one, Nat.reduceMul] at g0 g1 g2
  rw [if_neg (by omega)] at g0 g1
  rw [if_pos trivial, mul_one] at g2
  unfold cellC
  rw [g0, g1, g2, hc, half_eq]
  exact Node.cell_real _ _ _ _

theorem cellH_eq {c : Fin 128 → EReal} {n : Fin 128} {C : Fin 32 → ℝ} (hc : c n = (Node.newC (z (node n)) C (unit n) : EReal)) :
    cellH A c n = ((2 * Node.newH (z (node n)) C (unit n) : ℝ) : EReal) := by
  have g3 := gate_part hA n 3 (by omega)
  simp only [Nat.reduceMul] at g3
  rw [if_neg (by omega)] at g3
  unfold cellH
  rw [g3, hc]
  exact Node.hidden_real _ _

end Cell

end Cert.KernelIdeal.Proof

end
-- ==== Proof.OutIdeal.lean ====
/-
  The run of the idealized kernel with its result: the array the launch returns, entry by entry, as the row
  recursion over the arrays the launch is given (`kernelOut`).
-/
module

public import proofs.«01_k».proof.Proof.FrameIdeal
public import proofs.«01_k».proof.Proof.Scan
public import Idealize.ShloMosaic.Lib.Pipeline.ValueKit.Geometry

@[expose] public section

set_option maxRecDepth 16384

noncomputable section

namespace Cert.KernelIdeal.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueKit
open Idealize.ShloMosaic.Pipeline (Dat Cfg Window BodyObligation BodyObligationLoose cellOf)

local notation "𝕄" => MT nD τ sig Unit (Elt Ideal) ℕ (UR sig nD τ) ℕ

/-- One entry of the output from one row of the input and the weight arrays. -/
def outRow (x : Fin 512 → EReal) (W0 : FVec Ideal S208x6144 .bf16) (W1 : FVec Ideal S256x512 .bf16) (B1 : FVec Ideal S1x512 .f32)
    (F1 : FVec Ideal S128x64 .bf16) (D1 : FVec Ideal S1x64 .f32) (F2 : FVec Ideal S64x4 .bf16) (D2 : FVec Ideal S1x1 .f32)
    (g : Fin 4) : EReal :=
  headRow (rowAt (rowConst x) (matA W0) (fun k q => W1 (ix2 k q)) (fun q => B1 (ix2 0 q)) 12).h' (fun k m => F1 (ix2 k m))
    (fun m => D1 (ix2 0 m)) (fun m g => F2 (ix2 m g)) (D2 (ix2 0 0)) g

theorem blockOut_unread (c : Dev nD)
    (x : Memref sig .tc .vmem S1280x512 .f32) (hx : x.IsWhole) (w0 : Memref sig .tc .vmem S208x6144 .bf16) (hw0 : w0.IsWhole)
    (w1 : Memref sig .tc .vmem S256x512 .bf16) (hw1 : w1.IsWhole) (b1 : Memref sig .tc .vmem S1x512 .f32) (hb1 : b1.IsWhole)
    (f1 : Memref sig .tc .vmem S128x64 .bf16) (hf1 : f1.IsWhole) (d1 : Memref sig .tc .vmem S1x64 .f32) (hd1 : d1.IsWhole)
    (f2 : Memref sig .tc .vmem S64x4 .bf16) (hf2 : f2.IsWhole) (d2 : Memref sig .tc .vmem S1x1 .f32) (hd2 : d2.IsWhole)
    (X : S1280x512.Idx → Elt Ideal .f32) (W0 : S208x6144.Idx → Elt Ideal .bf16) (W1 : S256x512.Idx → Elt Ideal .bf16)
    (B1 : S1x512.Idx → Elt Ideal .f32) (F1 : S128x64.Idx → Elt Ideal .bf16) (D1 : S1x64.Idx → Elt Ideal .f32)
    (F2 : S64x4.Idx → Elt Ideal .bf16) (D2 : S1x1.Idx → Elt Ideal .f32) (R : Fin 1280) (g : Fin 4) :
    blockOut c x w0 w1 b1 f1 d1 f2 d2 (hx.unread X) (hw0.unread W0) (hw1.unread W1) (hb1.unread B1) (hf1.unread F1)
        (hd1.unread D1) (hf2.unread F2) (hd2.unread D2) R g
      = outRow (fun q => X (ix2 R q)) W0 W1 B1 F1 D1 F2 D2 g := by
  have e0 : rd c x (hx.unread X) = X := hx.read_unread X
  have e1 : rd c w0 (hw0.unread W0) = W0 := hw0.read_unread W0
  have e2 : rd c w1 (hw1.unread W1) = W1 := hw1.read_unread W1
  have e3 : rd c b1 (hb1.unread B1) = B1 := hb1.read_unread B1
  have e4 : rd c f1 (hf1.unread F1) = F1 := hf1.read_unread F1
  have e5 : rd c d1 (hd1.unread D1) = D1 := hd1.read_unread D1
  have e6 : rd c f2 (hf2.unread F2) = F2 := hf2.read_unread F2
  have e7 : rd c d2 (hd2.unread D2) = D2 := hd2.read_unread D2
  unfold blockOut blockAt rowsX matB biasB
  rw [e0, e1, e2, e3, e4, e5, e6, e7]
  rfl

theorem pointOut_row (c : Dev nD) (i : grid0.Coords)
    (x : Memref sig .tc .vmem S1280x512 .f32) (hx : x.IsWhole) (w0 : Memref sig .tc .vmem S208x6144 .bf16) (hw0 : w0.IsWhole)
    (w1 : Memref sig .tc .vmem S256x512 .bf16) (hw1 : w1.IsWhole) (b1 : Memref sig .tc .vmem S1x512 .f32) (hb1 : b1.IsWhole)
    (f1 : Memref sig .tc .vmem S128x64 .bf16) (hf1 : f1.IsWhole) (d1 : Memref sig .tc .vmem S1x64 .f32) (hd1 : d1.IsWhole)
    (f2 : Memref sig .tc .vmem S64x4 .bf16) (hf2 : f2.IsWhole) (d2 : Memref sig .tc .vmem S1x1 .f32) (hd2 : d2.IsWhole)
    (o : Memref sig .tc .vmem S1280x4 .f32) (ho : o.IsWhole)
    (X : S1280x512.Idx → Elt Ideal .f32) (W0 : S208x6144.Idx → Elt Ideal .bf16) (W1 : S256x512.Idx → Elt Ideal .bf16)
    (B1 : S1x512.Idx → Elt Ideal .f32) (F1 : S128x64.Idx → Elt Ideal .bf16) (D1 : S1x64.Idx → Elt Ideal .f32)
    (F2 : S64x4.Idx → Elt Ideal .bf16) (D2 : S1x1.Idx → Elt Ideal .f32) (R : Fin 1280) (g : Fin 4) :
    pointOut (F := Ideal) c i x hx w0 hw0 w1 hw1 b1 hb1 f1 hf1 d1 hd1 f2 hf2 d2 hd2 o ho X W0 W1 B1 F1 D1 F2 D2 (ix2 R g)
      = outRow (fun q => X (ix2 R q)) W0 W1 B1 F1 D1 F2 D2 g := by
  have e : (bodyRun (F := Ideal) c i x hx w0 hw0 w1 hw1 b1 hb1 f1 hf1 d1 hd1 f2 hf2 d2 hd2 o ho
      (Memref.whole cc0_scratch0) (Memref.isWhole_whole _) (Memref.whole cc0_scratch1) (Memref.isWhole_whole _)
      (hx.unread X) (hw0.unread W0) (hw1.unread W1) (hb1.unread B1) (hf1.unread F1) (hd1.unread D1) (hf2.unread F2)
      (hd2.unread D2)).1 = o.view.writes (Elt Ideal) o.view.junk (bodyRun.sl.Ho_2 (F := Ideal) c x w0 w1 b1 f1 d1 f2 d2
        (Memref.whole cc0_scratch0) (Memref.whole cc0_scratch1) (hx.unread X) (hw0.unread W0) (hw1.unread W1) (hb1.unread B1)
        (hf1.unread F1) (hd1.unread D1) (hf2.unread F2) (hd2.unread D2)) := by
    rfl
  refine (congrFun (congrArg (o.view.read (Elt Ideal)) e) (ix2 R g)).trans ((View.read_writes_junk_apply_eq_canon o.view (ix2 R g) _).trans ?_)
  refine (out_row c x w0 w1 b1 f1 d1 f2 d2 (Memref.whole cc0_scratch0) (Memref.whole cc0_scratch1) (hx.unread X) (hw0.unread W0)
    (hw1.unread W1) (hb1.unread B1) (hf1.unread F1) (hd1.unread D1) (hf2.unread F2) (hd2.unread D2) R g).trans ?_
  clear e
  exact blockOut_unread c x hx w0 hw0 w1 hw1 b1 hb1 f1 hf1 d1 hd1 f2 hf2 d2 hd2 X W0 W1 B1 F1 D1 F2 D2 R g

variable (m : (ℓ : Loc nD τ sig) → Buf (Elt Ideal) ℓ) (ρ : Dev nD → PrngReg)

/-- The result array, from the arrays the launch is given. -/
def kernelOut (c : Dev nD) : FVec Ideal S12500x4 .f32 := fun i =>
  outRow (fun q => (V m c main_v0 : FVec Ideal S12500x512 .f32) (ix2 (i 0) q)) (V m c main_v112) (V m c main_v113)
    (V m c main_v79) (V m c main_v114) (V m c main_v103) (V m c main_v115) (V m c main_v111) (i 1)

/-- The part of it a point's block holds. -/
def blockRes (c : Dev nD) (t : Fin cfg0.N) : (win0_8.xblock (grid0.coords t)).Idx → EReal :=
  (win0_8.blk t).view.read (Elt Ideal) (kernelOut m c)

theorem at0 : ∀ t : Fin cfg0.N, win0_0.index t = ![(grid0.coords t 0).val, 0] := (by decide +kernel : ∀ t : Fin grid0.N, _)
theorem at8 : ∀ t : Fin cfg0.N, win0_8.index t = ![(grid0.coords t 0).val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)

/-! ### Every weight array is one block -/

theorem whole_1 (c : Dev nD) (t : Fin cfg0.N) : iblk m c 1 t = V m c main_v112 := by
  funext y
  blk_simp [iblk]
  congr 1
  blk_ext [at1 t]
theorem whole_2 (c : Dev nD) (t : Fin cfg0.N) : iblk m c 2 t = V m c main_v113 := by
  funext y
  blk_simp [iblk]
  congr 1
  blk_ext [at2 t]
theorem whole_3 (c : Dev nD) (t : Fin cfg0.N) : iblk m c 3 t = V m c main_v79 := by
  funext y
  blk_simp [iblk]
  congr 1
  blk_ext [at3 t]
theorem whole_4 (c : Dev nD) (t : Fin cfg0.N) : iblk m c 4 t = V m c main_v114 := by
  funext y
  blk_simp [iblk]
  congr 1
  blk_ext [at4 t]
theorem whole_5 (c : Dev nD) (t : Fin cfg0.N) : iblk m c 5 t = V m c main_v103 := by
  funext y
  blk_simp [iblk]
  congr 1
  blk_ext [at5 t]
theorem whole_6 (c : Dev nD) (t : Fin cfg0.N) : iblk m c 6 t = V m c main_v115 := by
  funext y
  blk_simp [iblk]
  congr 1
  blk_ext [at6 t]
theorem whole_7 (c : Dev nD) (t : Fin cfg0.N) : iblk m c 7 t = V m c main_v111 := by
  funext y
  blk_simp [iblk]
  congr 1
  blk_ext [at7 t]

theorem xsize_eq : ∀ t : Fin cfg0.N, win0_8.xsize (grid0.coords t) 0 = win0_0.xsize (grid0.coords t) 0
    ∧ win0_0.xsize (grid0.coords t) 1 = 512 := (by decide +kernel : ∀ t : Fin grid0.N, _)

/-- A row of the clipped input block inside the array is the array's row. -/
theorem rows_0 (c : Dev nD) (t : Fin cfg0.N) (d : S1280x512.Idx → EReal) (y : (win0_8.xblock (grid0.coords t)).Idx) (q : Fin 512) :
    win0_0.fill (grid0.coords t) d (iblk m c 0 t) (ix2 (win0_8.xinj (grid0.coords t) y 0) q)
      = (V m c main_v0 : FVec Ideal S12500x512 .f32) (ix2 ((win0_8.blk t).view.emb y 0) q) := by
  have h0 : ((y 0 : Fin _) : ℕ) < win0_0.xsize (grid0.coords t) 0 := (y 0).isLt.trans_le (xsize_eq t).1.le
  have h1 : (q : ℕ) < win0_0.xsize (grid0.coords t) 1 := q.isLt.trans_le (xsize_eq t).2.ge
  have hm : win0_0.moved (grid0.coords t) (ix2 (win0_8.xinj (grid0.coords t) y 0) q) = true :=
    (win0_0.moved_iff _ _).mpr fun a => by
      refine Fin.cases ?_ (fun a => ?_) a
      · exact h0
      · obtain rfl : a = 0 := Subsingleton.elim _ _
        exact h1
  rw [Window.fill, dif_pos hm]
  blk_simp [iblk]
  congr 1
  blk_ext [at0 t, at8 t]

theorem block_res (c : Dev nD) (t : Fin cfg0.N) (d : S1280x512.Idx → EReal)
    (y : (win0_8.xblock (grid0.coords t)).Idx) :
    outRow (fun q => win0_0.fill (grid0.coords t) d (iblk m c 0 t) (ix2 (win0_8.xinj (grid0.coords t) y 0) q)) (iblk m c 1 t) (iblk m c 2 t)
      (iblk m c 3 t) (iblk m c 4 t) (iblk m c 5 t) (iblk m c 6 t) (iblk m c 7 t) (win0_8.xinj (grid0.coords t) y 1)
      = blockRes m c t y := by
  have e : blockRes m c t y = kernelOut m c ((win0_8.blk t).view.emb y) := by
    unfold blockRes
    blk_simp
  have eg : (win0_8.blk t).view.emb y 1 = win0_8.xinj (grid0.coords t) y 1 := by
    apply Fin.ext
    blk_simp [at8 t]
  rw [e, kernelOut, whole_1, whole_2, whole_3, whole_4, whole_5, whole_6, whole_7, eg]
  refine congrArg (fun x => outRow x _ _ _ _ _ _ _ _) (funext fun q => ?_)
  exact rows_0 m c t d y q

/-- What a point leaves in the output buffer, the clipped input's buffer holding `d` past the array's end: -/
abbrev pointAt (c : Dev nD) (t : Fin cfg0.N) (d : S1280x512.Idx → EReal) : S1280x4.Idx → EReal :=
  pointOut (F := Ideal) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8))
    (win0_0.fill (grid0.coords t) d (iblk m c 0 t)) (iblk m c 1 t) (iblk m c 2 t) (iblk m c 3 t) (iblk m c 4 t)
    (iblk m c 5 t) (iblk m c 6 t) (iblk m c 7 t)

/-- inside the array it is the result's block. -/
theorem point_fill (c : Dev nD) (t : Fin cfg0.N) (d : S1280x512.Idx → EReal) :
    win0_8.fill (grid0.coords t) (pointAt m c t d) (blockRes m c t) = pointAt m c t d := by
  have e : win0_8.cut (grid0.coords t) (pointAt m c t d) = blockRes m c t := funext fun y => by
    refine Eq.trans ?_ (block_res m c t d y)
    refine Eq.trans ?_ (pointOut_row c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8))
    (win0_0.fill (grid0.coords t) d (iblk m c 0 t)) (iblk m c 1 t) (iblk m c 2 t) (iblk m c 3 t) (iblk m c 4 t)
    (iblk m c 5 t) (iblk m c 6 t) (iblk m c 7 t)
      (win0_8.xinj (grid0.coords t) y 0) (win0_8.xinj (grid0.coords t) y 1))
    exact congrArg (pointAt m c t d) (ix2_eta _).symm
  rw [← e, Window.fill_cut]

namespace Out

/-- The proof data: each input's buffer keeps its block (the clipped one filled out past the array's end with a
    word nothing reads); the output's buffer is left at its block of the result. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => win0_8.fill (grid0.coords t) (fun _ => (0 : EReal)) (blockRes m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) (fun _ => (0 : EReal)) (iblk m c 0 t) := by
  dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t
    = win0_8.fill (grid0.coords t) (fun _ => (0 : EReal)) (blockRes m c t) := by dsimp only [dats]

/-- The clipped input is fetched at every point: the block on the rows inside the array, `d` past its end. -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk
  rw [A_eq]
  try rfl
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare
        (win0_8.fill (grid0.coords t) d (win0_8.cut (grid0.coords t) ((dats m 0 c).after 8 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1, before_2, before_3, before_4, before_5, before_6, before_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, Window.cut_fill, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c (grid0.coords t) _ _ _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) (iblk m c 7 t) Set.univ _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨HΦ, H0, H1, H2, H3, H4, H5, H6, H7, H8⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists (pointAt m c t d0)
  rw [point_fill m c t d0]
  iexact H8

theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-- The result array is `kernelOut`. -/
theorem final (c : Dev nD) : (dats m 0 c).arrAt 8 cfg0.N = kernelOut m c := by
  refine (dats m 0 c).arrAt_eq_of_covers 8 _ (by decide +kernel) fun t hf y => ?_
  rw [after_8]
  refine (congrArg (cast _) (Window.fill_xinj win0_8 (grid0.coords t) _ (blockRes m c t) y)).trans ?_
  unfold blockRes
  blk_simp

/-- The run: the result array ends at `kernelOut`, every array no window stages as the host operations left it, and
    every counter at zero. -/
theorem run : θ_run defs (onTc (τ := τ) (main (F := Ideal))) (s₀ m ρ) (fun r =>
    (∀ c : Dev nD, r.2.mem ((c.tc : Thread nD τ).loc main_v116) = kernelOut m c
      ∧ ∀ b ∈ Pipeline.restRefs sig spec0, r.2.mem ((c.tc : Thread nD τ).loc b) = V m c b) ∧ r.2.sem = fun _ => 0) :=
  Pipeline.θ_run_frame cfgs (dats m) 0 launch0 defs₀ Variants.none m ρ main
    (hbody := body_obligation m)
    (hshare := fun c => (dats m 0 c).share_full fun _ => rfl) (howed := fun _ _ => rfl)
    (V := V m) (hmain := hmain m Variants.none) (hA := A_eq m) (hΦ := fun _ _ => rfl)
    (Q' := fun r => (∀ c : Dev nD, r.2.mem ((c.tc : Thread nD τ).loc main_v116) = kernelOut m c
      ∧ ∀ b ∈ Pipeline.restRefs sig spec0, r.2.mem ((c.tc : Thread nD τ).loc b) = V m c b) ∧ r.2.sem = fun _ => 0)
    (hQ' := fun _ h => ⟨fun c => ⟨((h.1 c).1 8).trans (final m c), (h.1 c).2⟩, h.2⟩)

end Out

end Cert.KernelIdeal.Proof

end
-- ==== Proof.NodeOut.lean ====
/-
  What the kernel leaves, node by node: the two dense layers on each node's last state.
-/
module

public import proofs.«01_k».proof.Proof.NodeRow
public import proofs.«01_k».proof.Proof.OutIdeal

@[expose] public section

set_option maxRecDepth 16384

noncomputable section

namespace Cert.KernelIdeal.Proof

open Cert.KernelIdeal Cert.KernelIdeal.Gen

open Idealize.ShloMosaic Idealize.ShloMosaic.TcCoe Idealize.SL.Sem

/-- A row's state holds four nodes': the hidden states doubled. -/
structure RowHas (s : RowState) (S : Fin 4 → Node.State) : Prop where
  h : ∀ n, s.h n = ((2 * (S (node n)).h (unit n) : ℝ) : EReal)
  c : ∀ n, s.c n = ((S (node n)).c (unit n) : EReal)
  h' : ∀ n, s.h' n = ((2 * (S (node n)).h' (unit n) : ℝ) : EReal)
  c' : ∀ n, s.c' n = ((S (node n)).c' (unit n) : EReal)

section Row

variable (a : FVec Ideal S1x16 .f32) (t : FVec Ideal S16 .f32) (w : FVec Ideal S128x16 .f32) (r : FVec Ideal S128x32 .f32)
  (b b' : FVec Ideal S128 .f32) (w₁ r₁ : FVec Ideal S128x32 .f32) (b₁ b₁' : FVec Ideal S128 .f32) (x : Fin 512 → EReal)

/-- The weights, -/
def net : Node.Net where
  wi q p := w (ix2 q p)
  wh q u := r (ix2 q u)
  bi q := b (ix1 q)
  bh q := b' (ix1 q)
  wi' q p := w₁ (ix2 q p)
  wh' q u := r₁ (ix2 q u)
  bi' q := b₁ (ix1 q)
  bh' q := b₁' (ix1 q)

/-- and the inputs of a row's nodes. -/
def input (g : Fin 4) (j : ℕ) (p : Fin 16) : EReal :=
  if h : 116 + j < 128 then x ⟨g * 128 + (116 + j), by omega⟩ * a (ix2 0 p) + t (ix1 p) else 0

variable {a t w r b b' w₁ r₁ b₁ b₁' x}

variable (ha : ∀ p, ∃ y : ℝ, a (ix2 0 p) = y) (hw : ∀ n p, ∃ y : ℝ, w (ix2 n p) = y)
  (hx : ∀ (g : Fin 4) (j : Fin 12), ∃ y : ℝ, x ⟨g * 128 + (116 + j), by omega⟩ = y)

include ha hw hx

theorem rowHas_step {s : RowState} {S : Fin 4 → Node.State} (hs : RowHas s S) (j : ℕ) (hj : j < 12) :
    RowHas ((s.nextA (rowConst x) (matA (weights0 a t w r b b') j)).nextB (fun k q => weights1 w₁ r₁ (ix2 k q))
        (fun q => spreadB (bias1 b₁ b₁') (ix2 0 q)))
      fun g => (S g).next (net w r b b' w₁ r₁ b₁ b₁') (input a t x g j) := by
  choose a' ha using ha
  choose w' hw using hw
  choose x' hx using hx
  have gA (q : Fin 512) : gateA s.h (rowConst x) (matA (weights0 a t w r b b') j) q
      = Ideal.tanh (Node.gates (net w r b b' w₁ r₁ b₁ b₁') (input a t x (grp q) j) (S (grp q)) (col q) * sc (col q)) := by
    have e : input a t x (grp q) j = fun p => x ⟨grp q * 128 + (116 + j), by omega⟩ * a (ix2 0 p) + t (ix1 p) :=
      funext fun p => dif_pos (by omega)
    rw [e]
    exact gateA_eq (H := fun g => (S g).h) hs.h ha hw ⟨j, hj⟩ q (hx _ _)
  have cA := cellC_eq (z := fun g => Node.gates (net w r b b' w₁ r₁ b₁ b₁') (input a t x g j) (S g)) gA (C := fun g => (S g).c) hs.c
  have hA (n : Fin 128) := cellH_eq (z := fun g => Node.gates (net w r b b' w₁ r₁ b₁ b₁') (input a t x g j) (S g)) gA (C := (S (node n)).c) (cA n)
  have gB := gateB_eq (w := w₁) (r := r₁) (b := b₁) (b' := b₁')
    (H := fun g => Node.newH (Node.gates (net w r b b' w₁ r₁ b₁ b₁') (input a t x g j) (S g)) (S g).c)
    (H' := fun g => (S g).h') hA hs.h'
  have cB := cellC_eq (z := fun g => Node.gates' (net w r b b' w₁ r₁ b₁ b₁')
    (Node.newH (Node.gates (net w r b b' w₁ r₁ b₁ b₁') (input a t x g j) (S g)) (S g).c) (S g)) gB (C := fun g => (S g).c') hs.c'
  have hB (n : Fin 128) := cellH_eq (z := fun g => Node.gates' (net w r b b' w₁ r₁ b₁ b₁')
    (Node.newH (Node.gates (net w r b b' w₁ r₁ b₁ b₁') (input a t x g j) (S g)) (S g).c) (S g)) gB (C := (S (node n)).c') (cB n)
  exact ⟨hA, cA, hB, cB⟩

/-- A row's states are its nodes'. -/
theorem rowHas : ∀ j ≤ 12, RowHas (rowAt (rowConst x) (matA (weights0 a t w r b b')) (fun k q => weights1 w₁ r₁ (ix2 k q))
        (fun q => spreadB (bias1 b₁ b₁') (ix2 0 q)) j)
      fun g => Node.stateAt (net w r b b' w₁ r₁ b₁ b₁') (input a t x g) j
  | 0, _ => by
    refine ⟨fun n => ?_, fun n => ?_, fun n => ?_, fun n => ?_⟩ <;> simp [rowAt, Node.stateAt]
  | j + 1, hj => rowHas_step ha hw hx (rowHas j (by omega)) j (by omega)

end Row

/-- The first dense layer of a row, at a node's unit, -/
theorem dense_eq {h : Fin 128 → EReal} {H : Fin 4 → Fin 32 → ℝ} (hh : ∀ k, h k = ((2 * H (node k) (unit k) : ℝ) : EReal))
    (f : FVec Ideal S32x16 .f32) (i : Fin 64) :
    ∑ k : Fin 128, h k * head1 f (ix2 k i) = ∑ u, (H ⟨i / 16, by omega⟩ u : EReal) * f (ix2 u ⟨i % 16, by omega⟩) := by
  have e := sum_state hh (fun u => f (ix2 u ⟨i % 16, by omega⟩)) ⟨i / 16, by omega⟩ (s := 1) zero_le_one (EReal.coe_ne_top 1)
  rw [mul_one] at e
  refine (Finset.sum_congr rfl fun k _ => ?_).trans e
  rw [head1_at, eye4_at, mul_one]

theorem sum_64 (F : Fin 4 → Fin 16 → EReal) :
    ∑ i : Fin 64, F ⟨i / 16, by omega⟩ ⟨i % 16, by omega⟩ = ∑ g, ∑ k, F g k := by
  refine (Node.sum_split 4 16 fun i => F ⟨i / 16, by omega⟩ ⟨i % 16, by omega⟩).trans ?_
  refine Finset.sum_congr rfl fun g _ => Finset.sum_congr rfl fun k _ => ?_
  have e1 : (⟨((g : ℕ) * 16 + k) / 16, by omega⟩ : Fin 4) = g := Fin.ext (by show ((g : ℕ) * 16 + k) / 16 = g; omega)
  have e2 : (⟨((g : ℕ) * 16 + k) % 16, by omega⟩ : Fin 16) = k := Fin.ext (by show ((g : ℕ) * 16 + k) % 16 = k; omega)
  exact congrArg₂ F e1 e2

/-- and both. -/
theorem headRow_eq {h : Fin 128 → EReal} {H : Fin 4 → Fin 32 → ℝ} (hh : ∀ k, h k = ((2 * H (node k) (unit k) : ℝ) : EReal))
    (f : FVec Ideal S32x16 .f32) (d : FVec Ideal S16 .f32) (f' : FVec Ideal S16x1 .f32) (d' : EReal) (g : Fin 4) :
    headRow h (fun k m => head1 f (ix2 k m)) (fun m => headB d (ix2 0 m)) (fun m g => head2 f' (ix2 m g)) d' g
      = Node.head (H g) (fun u k => f (ix2 u k)) (fun k => d (ix1 k)) (fun k => f' (ix2 k 0)) d' := by
  have term (i : Fin 64) : max ((∑ k : Fin 128, h k * head1 f (ix2 k i)) + headB d (ix2 0 i)) 0 * head2 f' (ix2 i g)
      = (fun g' k => max ((∑ u, (H g' u : EReal) * f (ix2 u k)) + d (ix1 k)) 0 * ((if g' = g then 1 else 0) * f' (ix2 k 0)))
          (⟨i / 16, by omega⟩ : Fin 4) (⟨i % 16, by omega⟩ : Fin 16) := by
    rw [dense_eq hh, headB_at, head2_at, eye4_at]
  unfold headRow Node.head
  refine congrArg (· + d') ((Finset.sum_congr rfl fun i _ => term i).trans ((sum_64 fun g' k =>
    max ((∑ u, (H g' u : EReal) * f (ix2 u k)) + d (ix1 k)) 0 * ((if g' = g then 1 else 0) * f' (ix2 k 0))).trans ?_))
  exact Node.pick g (fun g' k => max ((∑ u, (H g' u : EReal) * f (ix2 u k)) + d (ix1 k)) 0) (fun k => f' (ix2 k 0))

/-- The rows of the launch's operand are the rows of `x`, four by four. -/
theorem rows_at (x : FVec Ideal S50000x128 .f32) (p : Fin 12500) (g : Fin 4) (i : Fin 128) :
    shapeCast S12500x512 x shapeCasts_S50000x128_S12500x512 (ix2 p (⟨g * 128 + i, by omega⟩ : Fin 512)) = x (ix2 ⟨p * 4 + g, by omega⟩ i) := by
  pointwise
  refine congrArg (fun n => x (ix2 n i)) (Fin.ext ?_)
  show (p : ℕ) * 4 + (g * 128 + i) / 128 = p * 4 + g
  omega

theorem last_at (d : FVec Ideal S1 .f32) : broadcastInDim S1x1 ![1] bcast_S1_S1x1_1 d (ix2 0 0) = d (ix1 0) := by
  pointwise

/-- A row of the result from the arrays before their casts. -/
theorem outRow_eq (x : Fin 512 → EReal) (w0 : FVec Ideal S208x6144 .f32) (w1 : FVec Ideal S256x512 .f32) (b1 : FVec Ideal S1x512 .f32)
    (f1 : FVec Ideal S128x64 .f32) (d1 : FVec Ideal S1x64 .f32) (f2 : FVec Ideal S64x4 .f32) (d2 : FVec Ideal S1 .f32) (g : Fin 4) :
    outRow x (truncf .bf16 w0 bitsLt_bf16_f32) (truncf .bf16 w1 bitsLt_bf16_f32) b1 (truncf .bf16 f1 bitsLt_bf16_f32) d1
        (truncf .bf16 f2 bitsLt_bf16_f32) (broadcastInDim S1x1 ![1] bcast_S1_S1x1_1 d2) g
      = headRow (rowAt (rowConst x) (matA w0) (fun k q => w1 (ix2 k q)) (fun q => b1 (ix2 0 q)) 12).h' (fun k i => f1 (ix2 k i))
          (fun i => d1 (ix2 0 i)) (fun i g => f2 (ix2 i g)) (d2 (ix1 0)) g := by
  rw [← last_at d2]
  rfl

/-- A row of the result, at a node, of the arguments. -/
theorem outRow_node (x : FVec Ideal S50000x128 .f32) (a : FVec Ideal S1x16 .f32) (t : FVec Ideal S16 .f32) (w : FVec Ideal S128x16 .f32)
    (r : FVec Ideal S128x32 .f32) (b b' : FVec Ideal S128 .f32) (w₁ r₁ : FVec Ideal S128x32 .f32) (b₁ b₁' : FVec Ideal S128 .f32)
    (f : FVec Ideal S32x16 .f32) (d : FVec Ideal S16 .f32) (f' : FVec Ideal S16x1 .f32) (d' : FVec Ideal S1 .f32)
    (ha : ∀ p : Fin 16, ∃ y : ℝ, a (ix2 0 p) = (y : EReal)) (hw : ∀ (n : Fin 128) (p : Fin 16), ∃ y : ℝ, w (ix2 n p) = (y : EReal))
    (hx : ∀ (n : Fin 50000) (j : Fin 12), ∃ y : ℝ, x (ix2 n ⟨116 + j, by omega⟩) = (y : EReal)) (p : Fin 12500) (g : Fin 4) :
    outRow (fun q => shapeCast S12500x512 x shapeCasts_S50000x128_S12500x512 (ix2 p q))
        (truncf .bf16 (weights0 a t w r b b') bitsLt_bf16_f32) (truncf .bf16 (weights1 w₁ r₁) bitsLt_bf16_f32) (spreadB (bias1 b₁ b₁'))
        (truncf .bf16 (head1 f) bitsLt_bf16_f32) (headB d) (truncf .bf16 (head2 f') bitsLt_bf16_f32)
        (broadcastInDim S1x1 ![1] bcast_S1_S1x1_1 d') g
      = Node.head (Node.stateAt (net w r b b' w₁ r₁ b₁ b₁')
          (fun j i => if h : 116 + j < 128 then x (ix2 ⟨p * 4 + g, by omega⟩ ⟨116 + j, h⟩) * a (ix2 0 i) + t (ix1 i) else 0) 12).h'
        (fun u k => f (ix2 u k)) (fun k => d (ix1 k)) (fun k => f' (ix2 k 0)) (d' (ix1 0)) := by
  have hs := rowHas (x := fun q => shapeCast S12500x512 x shapeCasts_S50000x128_S12500x512 (ix2 p q)) (t := t) (r := r) (b := b) (b' := b')
    (w₁ := w₁) (r₁ := r₁) (b₁ := b₁) (b₁' := b₁') ha hw
    (fun g j => (hx ⟨p * 4 + g, by omega⟩ j).imp fun y hy => (rows_at x p g ⟨116 + j, by omega⟩).trans hy) 12 le_rfl
  have e : input a t (fun q => shapeCast S12500x512 x shapeCasts_S50000x128_S12500x512 (ix2 p q)) g
      = fun j i => if h : 116 + j < 128 then x (ix2 ⟨p * 4 + g, by omega⟩ ⟨116 + j, h⟩) * a (ix2 0 i) + t (ix1 i) else 0 := by
    funext j i
    unfold input
    by_cases h : 116 + j < 128
    · rw [dif_pos h, dif_pos h]
      exact congrArg (fun z => z * a (ix2 0 i) + t (ix1 i)) (rows_at x p g ⟨116 + j, h⟩)
    · rw [dif_neg h, dif_neg h]
  rw [outRow_eq, ← e]
  have k := headRow_eq (H := fun g => (Node.stateAt (net w r b b' w₁ r₁ b₁ b₁')
    (input a t (fun q => shapeCast S12500x512 x shapeCasts_S50000x128_S12500x512 (ix2 p q)) g) 12).h') hs.h' f d f' (d' (ix1 0)) g
  exact k

section Out

variable (m : (ℓ : Loc nD τ sig) → Buf (Elt Ideal) ℓ) (c : Dev nD)

/-- What the kernel leaves, of its arguments. -/
theorem kernelOut_at (p : Fin 12500) (g : Fin 4) :
    kernelOut m c (ix2 p g)
      = outRow (fun q => shapeCast S12500x512 (m ((c : Thread nD τ).loc main_arg0)) shapeCasts_S50000x128_S12500x512 (ix2 p q))
        (truncf .bf16 (weights0 (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) bitsLt_bf16_f32)
        (truncf .bf16 (weights1 (m ((c : Thread nD τ).loc main_arg16)) (m ((c : Thread nD τ).loc main_arg17))) bitsLt_bf16_f32)
        (spreadB (bias1 (m ((c : Thread nD τ).loc main_arg18)) (m ((c : Thread nD τ).loc main_arg19)))) (truncf .bf16 (head1 (m ((c : Thread nD τ).loc main_arg20))) bitsLt_bf16_f32) (headB (m ((c : Thread nD τ).loc main_arg21))) (truncf .bf16 (head2 (m ((c : Thread nD τ).loc main_arg22))) bitsLt_bf16_f32)
        (broadcastInDim S1x1 ![1] bcast_S1_S1x1_1 (m ((c : Thread nD τ).loc main_arg23))) g := by
  unfold kernelOut
  rw [given_0, given_112, given_113, given_79, given_114, given_103, given_115, given_111]
  rfl

end Out

end Cert.KernelIdeal.Proof

end
-- ==== Proof.NodeRef.lean ====
/-
  The reference, node by node: one trip of its loop carries each node's state by the recursion of `Node`.
-/
module

public import proofs.«01_k».proof.Proof.Ref
public import proofs.«01_k».proof.Proof.Node
public import Idealize.ShloMosaic.Lib.Pointwise
public import Idealize.ShloMosaic.Lib.WordCmp
public import Idealize.ShloMosaic.Lib.DynamicIndex

@[expose] public section

set_option maxRecDepth 16384

noncomputable section

namespace Cert.ReferenceIdeal.Proof

open Cert.ReferenceIdeal Cert.ReferenceIdeal.Gen

open Idealize.ShloMosaic Idealize.ShloMosaic.TcCoe Idealize.SL.Sem

section Trip

variable (j : ℕ) (s : Step.State Ideal) (n : Fin 50000)

/-- The trip's input. -/
theorem input_at (hj : j < 12) (p : Fin 16) : Step.b3 j s (ix2 n p) = s.main_v8_0 (ix3 ⟨j, hj⟩ n p) := by
  have hk : S12x50000x16.Slices ![j, 0, 0] S1x50000x16 := ⟨rfl, fun a => by
    fin_cases a
    · show j + 1 ≤ 12
      omega
    · show 0 + 50000 ≤ 50000
      omega
    · show 0 + 16 ≤ 16
      omega⟩
  have e : Step.b2 j s = extractStridedSlice S1x50000x16 ![j, 0, 0] s.main_v8_0 hk := by
    refine WordCmp.dynamicSlice_eq_extract _ _ _ _ _ hk fun a => ?_
    fin_cases a
    · exact toInt_ofNat_of_lt (by omega)
    · rfl
    · rfl
  rw [Step.b3, e]
  pointwise

theorem gates_at (q : Fin 128) :
    Step.b14 j s (ix2 n q) = ((∑ p : Fin 16, Step.b3 j s (ix2 n p) * s.main_v8_1 (ix2 q p))
      + ∑ u : Fin 32, s.main_v8_10 (ix2 n u) * s.main_v8_2 (ix2 q u)) + s.main_v8_3 (ix1 q) + s.main_v8_4 (ix1 q) := by
  pointwise [Step.b4, Step.b5, Step.b6, Step.b7, Step.b8, Step.b9, Step.b10, Step.b11, Step.b12, Step.b13, Step.b14]

theorem cell_at (u : Fin 32) :
    Step.b38 j s (ix2 n u) = Ideal.logistic (Step.b14 j s (ix2 n ⟨32 + u, by omega⟩)) * s.main_v8_11 (ix2 n u)
      + Ideal.logistic (Step.b14 j s (ix2 n ⟨u, by omega⟩)) * Ideal.tanh (Step.b14 j s (ix2 n ⟨64 + u, by omega⟩)) := by
  pointwise [Step.b15, Step.b16, Step.b17, Step.b18, Step.b19, Step.b20, Step.b21, Step.b22, Step.b23, Step.b24, Step.b25, Step.b26,
    Step.b27, Step.b28, Step.b29, Step.b30, Step.b31, Step.b32, Step.b33, Step.b34, Step.b35, Step.b36, Step.b37, Step.b38]
  rfl

theorem hidden_at (u : Fin 32) :
    Step.b48 j s (ix2 n u) = Ideal.logistic (Step.b14 j s (ix2 n ⟨96 + u, by omega⟩)) * Ideal.tanh (Step.b38 j s (ix2 n u)) := by
  pointwise [Step.b18, Step.b39, Step.b40, Step.b41, Step.b42, Step.b43, Step.b44, Step.b45, Step.b46, Step.b47, Step.b48]
  rfl

theorem gates_at' (q : Fin 128) :
    Step.b59 j s (ix2 n q) = ((∑ p : Fin 32, Step.b48 j s (ix2 n p) * s.main_v8_5 (ix2 q p))
      + ∑ u : Fin 32, s.main_v8_12 (ix2 n u) * s.main_v8_6 (ix2 q u)) + s.main_v8_7 (ix1 q) + s.main_v8_8 (ix1 q) := by
  pointwise [Step.b49, Step.b50, Step.b51, Step.b52, Step.b53, Step.b54, Step.b55, Step.b56, Step.b57, Step.b58, Step.b59]

theorem cell_at' (u : Fin 32) :
    Step.b83 j s (ix2 n u) = Ideal.logistic (Step.b59 j s (ix2 n ⟨32 + u, by omega⟩)) * s.main_v8_13 (ix2 n u)
      + Ideal.logistic (Step.b59 j s (ix2 n ⟨u, by omega⟩)) * Ideal.tanh (Step.b59 j s (ix2 n ⟨64 + u, by omega⟩)) := by
  pointwise [Step.b60, Step.b61, Step.b62, Step.b63, Step.b64, Step.b65, Step.b66, Step.b67, Step.b68, Step.b69, Step.b70, Step.b71,
    Step.b72, Step.b73, Step.b74, Step.b75, Step.b76, Step.b77, Step.b78, Step.b79, Step.b80, Step.b81, Step.b82, Step.b83]
  rfl

theorem hidden_at' (u : Fin 32) :
    Step.b93 j s (ix2 n u) = Ideal.logistic (Step.b59 j s (ix2 n ⟨96 + u, by omega⟩)) * Ideal.tanh (Step.b83 j s (ix2 n u)) := by
  pointwise [Step.b63, Step.b84, Step.b85, Step.b86, Step.b87, Step.b88, Step.b89, Step.b90, Step.b91, Step.b92, Step.b93]
  rfl

end Trip

/-- The loop's constants: the two layers' weights, and the time inputs of a node. -/
structure Fixed (s : Step.State Ideal) (P : Node.Net) (y : ℕ → Fin 16 → EReal) (n : Fin 50000) : Prop where
  wi : ∀ q p, s.main_v8_1 (ix2 q p) = P.wi q p
  wh : ∀ q u, s.main_v8_2 (ix2 q u) = P.wh q u
  bi : ∀ q, s.main_v8_3 (ix1 q) = P.bi q
  bh : ∀ q, s.main_v8_4 (ix1 q) = P.bh q
  wi' : ∀ q p, s.main_v8_5 (ix2 q p) = P.wi' q p
  wh' : ∀ q u, s.main_v8_6 (ix2 q u) = P.wh' q u
  bi' : ∀ q, s.main_v8_7 (ix1 q) = P.bi' q
  bh' : ∀ q, s.main_v8_8 (ix1 q) = P.bh' q
  y : ∀ (j : Fin 12) p, s.main_v8_0 (ix3 j n p) = y j p

/-- The loop's state holds a node's. -/
structure Has (s : Step.State Ideal) (S : Node.State) (n : Fin 50000) : Prop where
  h : ∀ u, s.main_v8_10 (ix2 n u) = (S.h u : EReal)
  c : ∀ u, s.main_v8_11 (ix2 n u) = (S.c u : EReal)
  h' : ∀ u, s.main_v8_12 (ix2 n u) = (S.h' u : EReal)
  c' : ∀ u, s.main_v8_13 (ix2 n u) = (S.c' u : EReal)

/-- One trip. -/
theorem has_step {s : Step.State Ideal} {P : Node.Net} {y : ℕ → Fin 16 → EReal} {n : Fin 50000} {S : Node.State}
    (f : Fixed s P y n) (a : Has s S n) (j : ℕ) (hj : j < 12) : Has (Step.step j s) (S.next P (y j)) n := by
  have g (q : Fin 128) : Step.b14 j s (ix2 n q) = Node.gates P (y j) S q := by
    simp only [gates_at, input_at j s n hj, f.wi, f.wh, f.bi, f.bh, f.y, a.h]
    rfl
  have c (u : Fin 32) : Step.b38 j s (ix2 n u) = (Node.newC (Node.gates P (y j) S) S.c u : EReal) := by
    simp only [cell_at, g, a.c, Node.coe_sg, Node.coe_th, Node.newC, EReal.coe_add, EReal.coe_mul]
  have h (u : Fin 32) : Step.b48 j s (ix2 n u) = (Node.newH (Node.gates P (y j) S) S.c u : EReal) := by
    simp only [hidden_at, g, c, Node.coe_sg, Node.coe_th, Node.newH, EReal.coe_mul]
  have g' (q : Fin 128) : Step.b59 j s (ix2 n q) = Node.gates' P (Node.newH (Node.gates P (y j) S) S.c) S q := by
    simp only [gates_at', h, f.wi', f.wh', f.bi', f.bh', a.h']
    rfl
  have c' (u : Fin 32) : Step.b83 j s (ix2 n u)
      = (Node.newC (Node.gates' P (Node.newH (Node.gates P (y j) S) S.c) S) S.c' u : EReal) := by
    simp only [cell_at', g', a.c', Node.coe_sg, Node.coe_th, Node.newC, EReal.coe_add, EReal.coe_mul]
  have h' (u : Fin 32) : Step.b93 j s (ix2 n u)
      = (Node.newH (Node.gates' P (Node.newH (Node.gates P (y j) S) S.c) S) S.c' u : EReal) := by
    simp only [hidden_at', g', c', Node.coe_sg, Node.coe_th, Node.newH, EReal.coe_mul]
  exact ⟨h, c, h', c'⟩

section Run

variable (m : (ℓ : Loc nD τ sig) → Buf (Elt Ideal) ℓ) (c : Dev nD)

/-- The weights among the arguments. -/
def netOf (wi : FVec Ideal S128x16 .f32) (wh : FVec Ideal S128x32 .f32) (bi bh : FVec Ideal S128 .f32) (wi' wh' : FVec Ideal S128x32 .f32)
    (bi' bh' : FVec Ideal S128 .f32) : Node.Net where
  wi q p := wi (ix2 q p)
  wh q u := wh (ix2 q u)
  bi q := bi (ix1 q)
  bh q := bh (ix1 q)
  wi' q p := wi' (ix2 q p)
  wh' q u := wh' (ix2 q u)
  bi' q := bi' (ix1 q)
  bh' q := bh' (ix1 q)

/-- The time input of a node at step `j`: the time entry through the input projection. -/
def inputOf (x : FVec Ideal S50000x128 .f32) (a : FVec Ideal S1x16 .f32) (b : FVec Ideal S16 .f32) (n : Fin 50000) (j : ℕ) (p : Fin 16) :
    EReal :=
  if h : 116 + j < 128 then x (ix2 n ⟨116 + j, h⟩) * a (ix2 0 p) + b (ix1 p) else 0

theorem series_at (x : FVec Ideal S50000x128 .f32) (a : FVec Ideal S1x16 .f32) (b : FVec Ideal S16 .f32) (n : Fin 50000) (j : Fin 12)
    (p : Fin 16) : Step.A_main_v7 (F := Ideal) x a b (ix3 j n p) = inputOf x a b n j p := by
  pointwise [Step.A_main_v7, Step.A_main_v5, Step.A_main_v4, Step.A_main_v3, Step.A_main_v2, Step.A_main_v1, Step.A_main_v0, inputOf]
  rw [dif_pos (by omega), Fin.sum_univ_one]

/-- The states of the loop hold each node's recursion, -/
theorem states_hold (n : Fin 50000) (P : Node.Net)
    (hP : P = netOf (m ((c.tc : Thread nD τ).loc main_arg12)) (m ((c.tc : Thread nD τ).loc main_arg13))
      (m ((c.tc : Thread nD τ).loc main_arg14)) (m ((c.tc : Thread nD τ).loc main_arg15)) (m ((c.tc : Thread nD τ).loc main_arg16))
      (m ((c.tc : Thread nD τ).loc main_arg17)) (m ((c.tc : Thread nD τ).loc main_arg18)) (m ((c.tc : Thread nD τ).loc main_arg19)))
    (y : ℕ → Fin 16 → EReal)
    (hy : y = inputOf (m ((c.tc : Thread nD τ).loc main_arg0)) (m ((c.tc : Thread nD τ).loc main_arg10))
      (m ((c.tc : Thread nD τ).loc main_arg11)) n) :
    ∀ j ≤ 12, Fixed (states m c j) P y n ∧ Has (states m c j) (Node.stateAt P y j) n
  | 0, _ => by
    subst hP hy
    refine ⟨⟨fun _ _ => rfl, fun _ _ => rfl, fun _ => rfl, fun _ => rfl, fun _ _ => rfl, fun _ _ => rfl, fun _ => rfl, fun _ => rfl,
      fun j p => series_at _ _ _ n j p⟩, ?_⟩
    have z (u : Fin 32) : Step.K_main_v6 (F := Ideal) (ix2 n u) = (0 : EReal) := by
      pointwise [Step.K_main_v6, Step.K_main_cst]
    exact ⟨z, z, z, z⟩
  | j + 1, hj => by
    obtain ⟨f, a⟩ := states_hold n P hP y hy j (by omega)
    exact ⟨⟨f.wi, f.wh, f.bi, f.bh, f.wi', f.wh', f.bi', f.bh', f.y⟩, has_step f a j (by omega)⟩

/-- and the result is the two dense layers on the last of them. -/
theorem result_at (s : Step.State Ideal) (f : FVec Ideal S32x16 .f32) (d : FVec Ideal S16 .f32) (f' : FVec Ideal S16x1 .f32)
    (d' : FVec Ideal S1 .f32) (p : Fin 12500) (g : Fin 4) (S : Node.State) (a : Has s S ⟨p * 4 + g, by omega⟩) :
    Step.R_main_v18 (F := Ideal) s f d f' d' (ix2 p g)
      = Node.head S.h' (fun u k => f (ix2 u k)) (fun k => d (ix1 k)) (fun k => f' (ix2 k 0)) (d' (ix1 0)) := by
  simp only [Node.head, ← a.h']
  pointwise [Step.R_main_v18]

end Run

end Cert.ReferenceIdeal.Proof

end
-- ==== Proof.Value.lean ====
/-
  The value claim: with real time entries, input projection and first input weights the kernel's result is the
  reference's, on every node.
-/
module

public import proofs.«01_k».proof.Proof.NodeOut
public import proofs.«01_k».proof.Proof.NodeRef

@[expose] public section

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The reference's result at a row and a node of it, over the kernel's arguments. -/
theorem reference_at
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (p : Fin 12500) (g : Fin 4) :
    Cert.ReferenceIdeal.Step.R_main_v18 (F := Ideal) (Cert.ReferenceIdeal.Proof.states m' c 12) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (ix2 p g)
      = Node.head (Node.stateAt (Cert.KernelIdeal.Proof.net (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)))
          (Cert.ReferenceIdeal.Proof.inputOf (m ((c.tc : Thread Cert.KernelIdeal.nD Cert.KernelIdeal.τ).loc Cert.KernelIdeal.main_arg0)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) ⟨p * 4 + g, by omega⟩) 12).h'
        (fun u k => (m ((c.tc : Thread Cert.KernelIdeal.nD Cert.KernelIdeal.τ).loc Cert.KernelIdeal.main_arg20) : FVec Ideal Cert.KernelIdeal.S32x16 .f32) (ix2 u k))
        (fun k => (m ((c.tc : Thread Cert.KernelIdeal.nD Cert.KernelIdeal.τ).loc Cert.KernelIdeal.main_arg21) : FVec Ideal Cert.KernelIdeal.S16 .f32) (ix1 k))
        (fun k => (m ((c.tc : Thread Cert.KernelIdeal.nD Cert.KernelIdeal.τ).loc Cert.KernelIdeal.main_arg22) : FVec Ideal Cert.KernelIdeal.S16x1 .f32) (ix2 k 0))
        ((m ((c.tc : Thread Cert.KernelIdeal.nD Cert.KernelIdeal.τ).loc Cert.KernelIdeal.main_arg23) : FVec Ideal Cert.KernelIdeal.S1 .f32) (ix1 0)) := by
  rw [← h0, ← h10, ← h11, ← h12, ← h13, ← h14, ← h15, ← h16, ← h17, ← h18, ← h19, ← h20, ← h21, ← h22, ← h23]
  exact Cert.ReferenceIdeal.Proof.result_at _ _ _ _ _ p g _
    (Cert.ReferenceIdeal.Proof.states_hold m' c ⟨p * 4 + g, by omega⟩ _ rfl _ rfl 12 le_rfl).2

/-- The two results are equal. -/
theorem value
    (ha : ∀ p : Fin 16, ∃ y : ℝ, (m ((c.tc : Thread Cert.KernelIdeal.nD Cert.KernelIdeal.τ).loc Cert.KernelIdeal.main_arg10) : FVec Ideal Cert.KernelIdeal.S1x16 .f32) (ix2 0 p) = (y : EReal))
    (hw : ∀ (n : Fin 128) (p : Fin 16), ∃ y : ℝ,
      (m ((c.tc : Thread Cert.KernelIdeal.nD Cert.KernelIdeal.τ).loc Cert.KernelIdeal.main_arg12) : FVec Ideal Cert.KernelIdeal.S128x16 .f32) (ix2 n p) = (y : EReal))
    (hx : ∀ (n : Fin 50000) (j : Fin 12), ∃ y : ℝ,
      (m ((c.tc : Thread Cert.KernelIdeal.nD Cert.KernelIdeal.τ).loc Cert.KernelIdeal.main_arg0) : FVec Ideal Cert.KernelIdeal.S50000x128 .f32) (ix2 n ⟨116 + j, by omega⟩) = (y : EReal))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.Step.R_main_v18 (F := Ideal) (Cert.ReferenceIdeal.Proof.states m' c 12) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23))
      = Cert.KernelIdeal.Proof.kernelOut m c := by
  funext i
  obtain ⟨p, g, rfl⟩ : ∃ (p : Fin 12500) (g : Fin 4), i = ix2 p g := ⟨i 0, i 1, eq_ix2 i⟩
  refine (reference_at m m' c h0 h10 h11 h12 h13 h14 h15 h16 h17 h18 h19 h20 h21 h22 h23 p g).trans ?_
  rw [Cert.KernelIdeal.Proof.kernelOut_at]
  exact (Cert.KernelIdeal.Proof.outRow_node _ _ _ _ _ _ _ _ _ _ _ _ _ _ _ ha hw hx p g).symm

end Cert.Proof

end
-- ==== Proof.lean ====
/-
  The certificate's claims.
-/
module

public import proofs.«01_k».proof.Proof.Ref
public import proofs.«01_k».proof.Proof.FrameBits
public import proofs.«01_k».proof.Proof.FrameIdeal
public import proofs.«01_k».proof.Proof.FiniteInputs
public import proofs.«01_k».proof.Proof.Value
public import proofs.«01_k».proof.Defs
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel as printed leaves its arguments as they were and every counter at zero. -/
theorem frame_kernel : Cert.quiescent_Kernel := fun m ρ _ =>
  (θ_run Cert.Kernel.defs _ _).mono (fun _ h => ⟨fun c => Cert.Kernel.Proof.args_kept m c (h.1 c), h.2⟩)
    (Cert.Kernel.Proof.run_frame (F := Bits) m ρ)

/-- So does the idealized kernel, -/
theorem frame_ideal : Cert.quiescent_KernelIdeal := fun m ρ _ =>
  (θ_run Cert.KernelIdeal.defs _ _).mono (fun _ h => ⟨fun c => Cert.KernelIdeal.Proof.args_kept m c (h.1 c), h.2⟩)
    (Cert.KernelIdeal.Proof.run_frame (F := Ideal) m ρ)

/-- and the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.StepRun.run_iter (F := Ideal) m ρ (Cert.ReferenceIdeal.Proof.states m) (fun _ => rfl) (fun _ _ => rfl))

section Pre

attribute [local instance] Cert.Pre_finite_inputs.Proof.facts

/-- The same under the precondition of the value claim, -/
theorem frame_ideal_pre : Cert.quiescent_KernelIdeal_pre_finite_inputs := fun m ρ _ => frame_ideal m ρ trivial

theorem frame_reference_pre : Cert.quiescent_ReferenceIdeal_pre_finite_inputs := fun m ρ _ => frame_reference m ρ trivial

/-- and the value claim: both programs leave the same result. -/
theorem same_value : Cert.algebraic_KernelIdeal_ReferenceIdeal_pre_finite_inputs := fun m ρ m' ρ' pre e =>
  ⟨Cert.KernelIdeal.Proof.kernelOut m,
    (θ_run Cert.KernelIdeal.defs _ _).mono
      (fun _ h c => ⟨(h.1 c).1, Cert.KernelIdeal.Proof.args_kept m c (h.1 c).2⟩) (Cert.KernelIdeal.Proof.Out.run m ρ),
    (θ_run Cert.ReferenceIdeal.defs _ _).mono
      (fun _ h c =>
        have q := Cert.Pre_finite_inputs.Proof.real_inputs _ _ _ _ _ _ _ _ _ _ _ _ _ _ _ _ _ _ _ _ _ _ _ _ (pre c)
        ⟨(h c).1.trans (value m m' c q.2.1 q.2.2 q.1 (e c).1 (e c).2.2.2.2.2.2.2.2.2.2.1 (e c).2.2.2.2.2.2.2.2.2.2.2.1 (e c).2.2.2.2.2.2.2.2.2.2.2.2.1 (e c).2.2.2.2.2.2.2.2.2.2.2.2.2.1 (e c).2.2.2.2.2.2.2.2.2.2.2.2.2.2.1 (e c).2.2.2.2.2.2.2.2.2.2.2.2.2.2.2.1 (e c).2.2.2.2.2.2.2.2.2.2.2.2.2.2.2.2.1 (e c).2.2.2.2.2.2.2.2.2.2.2.2.2.2.2.2.2.1 (e c).2.2.2.2.2.2.2.2.2.2.2.2.2.2.2.2.2.2.1 (e c).2.2.2.2.2.2.2.2.2.2.2.2.2.2.2.2.2.2.2.1 (e c).2.2.2.2.2.2.2.2.2.2.2.2.2.2.2.2.2.2.2.2.1 (e c).2.2.2.2.2.2.2.2.2.2.2.2.2.2.2.2.2.2.2.2.2.1 (e c).2.2.2.2.2.2.2.2.2.2.2.2.2.2.2.2.2.2.2.2.2.2.1 (e c).2.2.2.2.2.2.2.2.2.2.2.2.2.2.2.2.2.2.2.2.2.2.2), (h c).2⟩)
      (Cert.ReferenceIdeal.StepRun.run_iter (F := Ideal) m' ρ' (Cert.ReferenceIdeal.Proof.states m') (fun _ => rfl) (fun _ _ => rfl))⟩

end Pre

theorem claim : Cert.Claim := ⟨Cert.Kernel.Gen.facts, Cert.KernelIdeal.Gen.facts, Cert.ReferenceIdeal.Gen.facts,
  Cert.Pre_finite_inputs.Proof.facts, frame_kernel, frame_ideal, frame_ideal_pre, frame_reference, frame_reference_pre, trivial,
  same_value⟩

end Cert.Proof

end
